-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_and_classes [hPre_finite_scores_and_classes : Cert.Pre_finite_scores_and_classes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_and_classes [hPre_finite_scores_and_classes : Cert.Pre_finite_scores_and_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores_and_classes [hKernelIdeal : Cert.KernelIdeal.Facts] [hPre_finite_scores_and_classes : Cert.Pre_finite_scores_and_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_and_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores_and_classes [hReferenceIdeal : Cert.ReferenceIdeal.Facts] [hPre_finite_scores_and_classes : Cert.Pre_finite_scores_and_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_and_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_scores_and_classes [hKernelIdeal : Cert.KernelIdeal.Facts] [hReferenceIdeal : Cert.ReferenceIdeal.Facts] [hPre_finite_scores_and_classes : Cert.Pre_finite_scores_and_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_and_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_scores_and_classes : Cert.Pre_finite_scores_and_classes.Facts),
    quiescent_Kernel (hKernel := hKernel)
    ∧ quiescent_KernelIdeal (hKernelIdeal := hKernelIdeal)
    ∧ quiescent_KernelIdeal_pre_finite_scores_and_classes (hKernelIdeal := hKernelIdeal) (hPre_finite_scores_and_classes := hPre_finite_scores_and_classes)
    ∧ quiescent_ReferenceIdeal (hReferenceIdeal := hReferenceIdeal)
    ∧ quiescent_ReferenceIdeal_pre_finite_scores_and_classes (hReferenceIdeal := hReferenceIdeal) (hPre_finite_scores_and_classes := hPre_finite_scores_and_classes)
    ∧ preserves_Kernel_KernelIdeal
    ∧ algebraic_KernelIdeal_ReferenceIdeal_pre_finite_scores_and_classes (hKernelIdeal := hKernelIdeal) (hReferenceIdeal := hReferenceIdeal) (hPre_finite_scores_and_classes := hPre_finite_scores_and_classes)
-- ==== Pre_finite_scores_and_classes.lean ====
abbrev S4x21x512x512 : Shape := ⟨4, ![4, 21, 512, 512]⟩
abbrev S4x512x512 : Shape := ⟨3, ![4, 512, 512]⟩
abbrev S_ : Shape := ⟨0, ![]⟩
abbrev S4x1x512x512 : Shape := ⟨4, ![4, 1, 512, 512]⟩

class Facts : Prop where
  bcast_S_S4x512x512 : S_.BroadcastsInDim S4x512x512 (![] : Fin 0 → Fin S4x512x512.rank)
  bcast_S_S4x21x512x512 : S_.BroadcastsInDim S4x21x512x512 (![] : Fin 0 → Fin S4x21x512x512.rank)
  bcast_S4x512x512_S4x1x512x512_0_2_3 : S4x512x512.BroadcastsInDim S4x1x512x512 (![0, 2, 3] : Fin 3 → Fin S4x1x512x512.rank)
  bcast_S4x1x512x512_S4x21x512x512_0_1_2_3 : S4x1x512x512.BroadcastsInDim S4x21x512x512 (![0, 1, 2, 3] : Fin 4 → Fin S4x21x512x512.rank)

variable [Facts]

def fn {F : FTy → Type} [FloatOps F] (main_arg0 : FVec F S4x21x512x512 .f32) (main_arg1 : IVec S4x512x512 32) : IVec S4x21x512x512 1 :=
  let main_c : IVec S_ 32 := constantI S_ 32 0#32
  let main_v0 : IVec S4x512x512 32 := broadcastInDim S4x512x512 ![] bcast_S_S4x512x512 main_c
  let main_v1 : IVec S4x512x512 1 := cmpi .sge main_arg1 main_v0
  let main_c_0 : IVec S_ 32 := constantI S_ 32 21#32
  let main_v2 : IVec S4x512x512 32 := broadcastInDim S4x512x512 ![] bcast_S_S4x512x512 main_c_0
  let main_v3 : IVec S4x512x512 1 := cmpi .slt main_arg1 main_v2
  let main_v4 : IVec S4x512x512 1 := andi main_v1 main_v3
  let main_v5 : FVec F S4x21x512x512 .f32 := Host.absf main_arg0
  let main_cst : FVec F S_ .f32 := constant S_ .f32 0x7F800000#32
  let main_v6 : FVec F S4x21x512x512 .f32 := broadcastInDim S4x21x512x512 ![] bcast_S_S4x21x512x512 main_cst
  let main_v7 : IVec S4x21x512x512 1 := cmpf .olt main_v5 main_v6
  let main_v8 : IVec S4x1x512x512 1 := broadcastInDim S4x1x512x512 ![0, 2, 3] bcast_S4x512x512_S4x1x512x512_0_2_3 main_v4
  let main_v9 : IVec S4x21x512x512 1 := broadcastInDim S4x21x512x512 ![0, 1, 2, 3] bcast_S4x1x512x512_S4x21x512x512_0_1_2_3 main_v8
  let main_v10 : IVec S4x21x512x512 1 := andi main_v7 main_v9
  main_v10
-- ==== Kernel.lean ====
abbrev S4x21x512x512 : Shape := ⟨4, ![4, 21, 512, 512]⟩
abbrev S4x512x512 : Shape := ⟨3, ![4, 512, 512]⟩
abbrev S1x1 : Shape := ⟨2, ![1, 1]⟩
abbrev S1x21x128x512 : Shape := ⟨4, ![1, 21, 128, 512]⟩
abbrev S1x256x512 : Shape := ⟨3, ![1, 256, 512]⟩
abbrev S2x10x8x128 : Shape := ⟨4, ![2, 10, 8, 128]⟩
abbrev S1x1x8x128 : Shape := ⟨4, ![1, 1, 8, 128]⟩
abbrev S8x128 : Shape := ⟨2, ![8, 128]⟩
abbrev S1x8x256 : Shape := ⟨3, ![1, 8, 256]⟩
abbrev S8x256 : Shape := ⟨2, ![8, 256]⟩
abbrev S1x1x8x256 : Shape := ⟨4, ![1, 1, 8, 256]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 3
  | .vmem => 7
  | .smem => 1
  | _ => 0

abbrev bufTy : (tb : Table) → Fin (tcTables nBuf tb) → BufTy
  | .hbm, ⟨0, _⟩ => ⟨S4x21x512x512, .f32⟩
  | .hbm, ⟨1, _⟩ => ⟨S4x512x512, .i32⟩
  | .hbm, ⟨2, _⟩ => ⟨S1x1, .f32⟩
  | .local _ .vmem, ⟨0, _⟩ => ⟨S1x21x128x512, .f32⟩
  | .local _ .vmem, ⟨1, _⟩ => ⟨S1x21x128x512, .f32⟩
  | .local _ .vmem, ⟨2, _⟩ => ⟨S1x21x128x512, .f32⟩
  | .local _ .vmem, ⟨3, _⟩ => ⟨S1x21x128x512, .f32⟩
  | .local _ .vmem, ⟨4, _⟩ => ⟨S1x256x512, .i32⟩
  | .local _ .vmem, ⟨5, _⟩ => ⟨S1x256x512, .i32⟩
  | .local _ .vmem, ⟨6, _⟩ => ⟨S2x10x8x128, .f32⟩
  | .local _ .smem, ⟨0, _⟩ => ⟨S1x1, .f32⟩
  | _, _ => ⟨S4x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c3_i32 : BitVec 32 := 3#32
  let v3 : BitVec 1 := Scalar.cmpi .eq arg0 c3_i32
  let arg1 : BitVec 32 := BitVec.ofNat 32 (i 1).val
  let c1_i32 : BitVec 32 := 1#32
  let v4 : BitVec 1 := Scalar.cmpi .eq arg1 c1_i32
  let v5 : BitVec 1 := Scalar.andi v3 v4
  let v17959 : BitVec 32 := Scalar.extui v5
  let c0_i32_8926 : BitVec 32 := 0#32
  let v17960 : BitVec 1 := Scalar.cmpi .ne v17959 c0_i32_8926
  v17960

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![arg0.toNat, c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x21x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x21x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4x21x512x512 : Shape := ⟨4, ![4, 21, 512, 512]⟩
abbrev S4x512x512 : Shape := ⟨3, ![4, 512, 512]⟩
abbrev S_ : Shape := ⟨0, ![]⟩
abbrev S10 : Shape := ⟨1, ![10]⟩
abbrev S1 : Shape := ⟨1, ![1]⟩
abbrev S11 : Shape := ⟨1, ![11]⟩
abbrev S4x512x512x1 : Shape := ⟨4, ![4, 512, 512, 1]⟩
abbrev S1x1x1x21 : Shape := ⟨4, ![1, 1, 1, 21]⟩
abbrev S4x512x512x21 : Shape := ⟨4, ![4, 512, 512, 21]⟩
abbrev S1048576 : Shape := ⟨1, ![1048576]⟩
abbrev S1x11 : Shape := ⟨2, ![1, 11]⟩
abbrev S1048576x1 : Shape := ⟨2, ![1048576, 1]⟩
abbrev S1048576x11 : Shape := ⟨2, ![1048576, 11]⟩
abbrev S4x1x512x512 : Shape := ⟨4, ![4, 1, 512, 512]⟩
abbrev S4x1x512x512x1 : Shape := ⟨5, ![4, 1, 512, 512, 1]⟩
abbrev S1x1x1x1x1 : Shape := ⟨5, ![1, 1, 1, 1, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S4x21x512x512, .f32⟩
  | 1 => ⟨S4x512x512, .i32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S10, .f32⟩
  | 10 => ⟨S_, .f32⟩
  | 11 => ⟨S10, .f32⟩
  | 12 => ⟨S10, .f32⟩
  | 13 => ⟨S1, .f32⟩
  | 14 => ⟨S_, .f32⟩
  | 15 => ⟨S10, .f32⟩
  | 16 => ⟨S10, .f32⟩
  | 17 => ⟨S10, .f32⟩
  | 18 => ⟨S10, .f32⟩
  | 19 => ⟨S1, .f32⟩
  | 20 => ⟨S10, .f32⟩
  | 21 => ⟨S10, .f32⟩
  | 22 => ⟨S10, .f32⟩
  | 23 => ⟨S1, .f32⟩
  | 24 => ⟨S11, .f32⟩
  | 25 => ⟨S_, .i32⟩
  | 26 => ⟨S1, .i32⟩
  | 27 => ⟨S_, .f32⟩
  | 28 => ⟨S11, .f32⟩
  | 29 => ⟨S4x512x512x1, .i32⟩
  | 30 => ⟨S1x1x1x21, .i32⟩
  | 31 => ⟨S4x512x512x21, .i32⟩
  | 32 => ⟨S4x512x512x21, .i32⟩
  | 33 => ⟨S4x512x512x21, .i1⟩
  | 34 => ⟨S4x512x512x21, .f32⟩
  | 35 => ⟨S4x21x512x512, .f32⟩
  | 36 => ⟨S4x21x512x512, .f32⟩
  | 37 => ⟨S_, .f32⟩
  | 38 => ⟨S4x512x512, .f32⟩
  | 39 => ⟨S_, .f32⟩
  | 40 => ⟨S4x512x512, .f32⟩
  | 41 => ⟨S4x512x512, .f32⟩
  | 42 => ⟨S4x512x512, .f32⟩
  | 43 => ⟨S1048576, .f32⟩
  | 44 => ⟨S1x11, .f32⟩
  | 45 => ⟨S1048576x1, .f32⟩
  | 46 => ⟨S1048576x11, .f32⟩
  | 47 => ⟨S1048576x11, .f32⟩
  | 48 => ⟨S1048576x11, .i1⟩
  | 49 => ⟨S1048576x11, .i32⟩
  | 50 => ⟨S_, .i32⟩
  | 51 => ⟨S1048576, .i32⟩
  | 52 => ⟨S_, .i32⟩
  | 53 => ⟨S1048576, .i32⟩
  | 54 => ⟨S1048576, .i32⟩
  | 55 => ⟨S_, .i32⟩
  | 56 => ⟨S_, .i32⟩
  | 57 => ⟨S_, .i32⟩
  | 58 => ⟨S1048576, .i32⟩
  | 59 => ⟨S1048576, .i32⟩
  | 60 => ⟨S_, .i32⟩
  | 61 => ⟨S1048576, .i32⟩
  | 62 => ⟨S1048576, .i32⟩
  | 63 => ⟨S_, .i32⟩
  | 64 => ⟨S10, .i32⟩
  | 65 => ⟨S_, .i32⟩
  | 66 => ⟨S_, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S_, .i32⟩
  | 78 => ⟨S1048576, .i32⟩
  | 79 => ⟨S10, .i32⟩
  | 80 => ⟨S10, .f32⟩
  | 81 => ⟨S_, .f32⟩
  | 82 => ⟨S10, .f32⟩
  | 83 => ⟨S_, .f32⟩
  | 84 => ⟨S10, .f32⟩
  | 85 => ⟨S10, .f32⟩
  | 86 => ⟨S_, .f32⟩
  | 87 => ⟨S10, .f32⟩
  | 88 => ⟨S10, .f32⟩
  | 89 => ⟨S10, .f32⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i32⟩
  | 96 => ⟨S1048576, .i32⟩
  | 97 => ⟨S1048576x1, .i32⟩
  | 98 => ⟨S1048576, .f32⟩
  | 99 => ⟨S_, .f32⟩
  | 100 => ⟨S1048576, .f32⟩
  | 101 => ⟨S1048576, .f32⟩
  | 102 => ⟨S_, .f32⟩
  | 103 => ⟨S1048576, .f32⟩
  | 104 => ⟨S1048576, .f32⟩
  | 105 => ⟨S_, .f32⟩
  | 106 => ⟨S4x512x512, .f32⟩
  | 107 => ⟨S_, .f32⟩
  | 108 => ⟨S4x512x512, .f32⟩
  | 109 => ⟨S4x512x512, .f32⟩
  | 110 => ⟨S4x1x512x512, .f32⟩
  | 111 => ⟨S4x21x512x512, .f32⟩
  | 112 => ⟨S4x21x512x512, .f32⟩
  | 113 => ⟨S4x21x512x512, .f32⟩
  | 114 => ⟨S_, .f32⟩
  | 115 => ⟨S4x512x512, .f32⟩
  | 116 => ⟨S4x1x512x512, .f32⟩
  | 117 => ⟨S4x1x512x512, .f32⟩
  | 118 => ⟨S4x21x512x512, .f32⟩
  | 119 => ⟨S4x21x512x512, .f32⟩
  | 120 => ⟨S4x1x512x512, .i32⟩
  | 121 => ⟨S_, .i32⟩
  | 122 => ⟨S4x1x512x512, .i32⟩
  | 123 => ⟨S4x1x512x512, .i1⟩
  | 124 => ⟨S_, .i32⟩
  | 125 => ⟨S4x1x512x512, .i32⟩
  | 126 => ⟨S4x1x512x512, .i32⟩
  | 127 => ⟨S4x1x512x512, .i32⟩
  | _ => ⟨S4x21x512x512, .f32⟩

abbrev hbmTy0_1 (i : Nat) : BufTy := match i % 128 with
  | 0 => ⟨S4x1x512x512x1, .i32⟩
  | 1 => ⟨S1, .i32⟩
  | 2 => ⟨S_, .i32⟩
  | 3 => ⟨S4x1x512x512x1, .i32⟩
  | 4 => ⟨S4x1x512x512x1, .i1⟩
  | 5 => ⟨S1x1x1x1x1, .i32⟩
  | 6 => ⟨S4x1x512x512x1, .i32⟩
  | 7 => ⟨S4x1x512x512x1, .i1⟩
  | 8 => ⟨S4x1x512x512x1, .i1⟩
  | 9 => ⟨S_, .i1⟩
  | 10 => ⟨S4x1x512x512, .i1⟩
  | 11 => ⟨S4x1x512x512, .f32⟩
  | 12 => ⟨S_, .f32⟩
  | 13 => ⟨S4x1x512x512, .f32⟩
  | 14 => ⟨S4x1x512x512, .f32⟩
  | 15 => ⟨S4x512x512, .f32⟩
  | 16 => ⟨S4x512x512, .f32⟩
  | 17 => ⟨S1048576, .f32⟩
  | 18 => ⟨S1048576, .f32⟩
  | 19 => ⟨S_, .f32⟩
  | 20 => ⟨S_, .f32⟩
  | 21 => ⟨S_, .f32⟩
  | 22 => ⟨S_, .f32⟩
  | 23 => ⟨S1x1, .f32⟩
  | _ => ⟨S4x21x512x512, .f32⟩

abbrev hbmTy (i : Nat) : BufTy := match i / 128 with
  | 0 => hbmTy0_0 i
  | 1 => hbmTy0_1 i
  | _ => ⟨S4x21x512x512, .f32⟩

abbrev bufTy : (tb : Table) → Fin (tcTables nBuf tb) → BufTy
  | .hbm, ⟨i, _⟩ => hbmTy i
  | _, _ => ⟨S4x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_cst_1 : Ref sig .tc := ⟨.hbm, 27, rfl⟩
abbrev main_v2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_cst_3 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_4 : Ref sig .tc := ⟨.hbm, 50, rfl⟩
abbrev main_v17 : Ref sig .tc := ⟨.hbm, 51, rfl⟩
abbrev main_c_5 : Ref sig .tc := ⟨.hbm, 52, rfl⟩
abbrev main_v18 : Ref sig .tc := ⟨.hbm, 53, rfl⟩
abbrev main_v19 : Ref sig .tc := ⟨.hbm, 54, rfl⟩
abbrev main_c_6 : Ref sig .tc := ⟨.hbm, 55, rfl⟩
abbrev main_c_7 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v20 : Ref sig .tc := ⟨.hbm, 62, rfl⟩
abbrev main_c_8 : Ref sig .tc := ⟨.hbm, 63, rfl⟩
abbrev main_v21 : Ref sig .tc := ⟨.hbm, 64, rfl⟩
abbrev main_c_9 : Ref sig .tc := ⟨.hbm, 65, rfl⟩
abbrev main_call3_v0 : Ref sig .tc := ⟨.hbm, 66, rfl⟩
abbrev main_call3_v1 : Ref sig .tc := ⟨.hbm, 67, rfl⟩
abbrev main_v22 : Ref sig .tc := ⟨.hbm, 68, rfl⟩
abbrev main_c_10 : Ref sig .tc := ⟨.hbm, 69, rfl⟩
abbrev main_v23 : Ref sig .tc := ⟨.hbm, 70, rfl⟩
abbrev main_v24 : Ref sig .tc := ⟨.hbm, 71, rfl⟩
abbrev main_c_11 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_c_12 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_13 : Ref sig .tc := ⟨.hbm, 81, rfl⟩
abbrev main_v32 : Ref sig .tc := ⟨.hbm, 82, rfl⟩
abbrev main_cst_14 : Ref sig .tc := ⟨.hbm, 83, rfl⟩
abbrev main_v33 : Ref sig .tc := ⟨.hbm, 84, rfl⟩
abbrev main_v34 : Ref sig .tc := ⟨.hbm, 85, rfl⟩
abbrev main_cst_15 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_c_16 : Ref sig .tc := ⟨.hbm, 90, rfl⟩
abbrev main_v38 : Ref sig .tc := ⟨.hbm, 91, rfl⟩
abbrev main_v39 : Ref sig .tc := ⟨.hbm, 92, rfl⟩
abbrev main_c_17 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_18 : Ref sig .tc := ⟨.hbm, 99, rfl⟩
abbrev main_v45 : Ref sig .tc := ⟨.hbm, 100, rfl⟩
abbrev main_v46 : Ref sig .tc := ⟨.hbm, 101, rfl⟩
abbrev main_cst_19 : Ref sig .tc := ⟨.hbm, 102, rfl⟩
abbrev main_v47 : Ref sig .tc := ⟨.hbm, 103, rfl⟩
abbrev main_v48 : Ref sig .tc := ⟨.hbm, 104, rfl⟩
abbrev main_call4_cst : Ref sig .tc := ⟨.hbm, 105, rfl⟩
abbrev main_call4_v0 : Ref sig .tc := ⟨.hbm, 106, rfl⟩
abbrev main_call4_cst_0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_v6 : Ref sig .tc := ⟨.hbm, 113, rfl⟩
abbrev main_call4_cst_1 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_v49 : Ref sig .tc := ⟨.hbm, 119, rfl⟩
abbrev main_v50 : Ref sig .tc := ⟨.hbm, 120, rfl⟩
abbrev main_call5_c : Ref sig .tc := ⟨.hbm, 121, rfl⟩
abbrev main_call5_v0 : Ref sig .tc := ⟨.hbm, 122, rfl⟩
abbrev main_call5_v1 : Ref sig .tc := ⟨.hbm, 123, rfl⟩
abbrev main_call5_c_0 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_call5_v5 : Ref sig .tc := ⟨.hbm, 128, rfl⟩
abbrev main_call5_c_1 : Ref sig .tc := ⟨.hbm, 129, rfl⟩
abbrev main_call5_c_2 : Ref sig .tc := ⟨.hbm, 130, rfl⟩
abbrev main_call5_v6 : Ref sig .tc := ⟨.hbm, 131, rfl⟩
abbrev main_call5_v7 : Ref sig .tc := ⟨.hbm, 132, rfl⟩
abbrev main_call5_v8 : Ref sig .tc := ⟨.hbm, 133, rfl⟩
abbrev main_call5_v9 : Ref sig .tc := ⟨.hbm, 134, rfl⟩
abbrev main_call5_v10 : Ref sig .tc := ⟨.hbm, 135, rfl⟩
abbrev main_call5_v11 : Ref sig .tc := ⟨.hbm, 136, rfl⟩
abbrev main_call5_c_3 : Ref sig .tc := ⟨.hbm, 137, rfl⟩
abbrev main_call5_v12 : Ref sig .tc := ⟨.hbm, 138, rfl⟩
abbrev main_call5_v13 : Ref sig .tc := ⟨.hbm, 139, rfl⟩
abbrev main_call5_cst : Ref sig .tc := ⟨.hbm, 140, rfl⟩
abbrev main_call5_v14 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_cst_20 : Ref sig .tc := ⟨.hbm, 147, rfl⟩
abbrev main_v56 : Ref sig .tc := ⟨.hbm, 148, rfl⟩
abbrev main_cst_21 : Ref sig .tc := ⟨.hbm, 149, rfl⟩
abbrev main_v57 : Ref sig .tc := ⟨.hbm, 150, rfl⟩
abbrev main_v58 : Ref sig .tc := ⟨.hbm, 151, rfl⟩

abbrev nD : Nat := 1
abbrev τ : Topo := Topo.v7x

variable {F : FTy → Type} [FloatOps F]
-- ==== Proof.Spec.lean ====
/-
  The gradient-harmonised cross entropy over the real numbers, and the one identity the two programs differ by.

  Scores are reals `X b c h w`, classes are `T b h w`. A pixel's probability term is the score of its class, its
  cross entropy the logarithm of the sum of exponentials minus that score, its bin the tenth of the unit interval
  that holds the distance of the score from one (distances past one fall in the last bin). The loss is the mean of
  the cross entropies, each divided by the weighted number of pixels in its bin.
-/
module

public import Idealize.ShloMosaic.PureOps.Ideal.Laws
public import Idealize.ShloMosaic.Lib.IdealHost
public import Mathlib.Analysis.SpecialFunctions.Log.Basic
public import Mathlib.Algebra.Order.Floor.Ring

@[expose] public section

noncomputable section

namespace Ghm

open Idealize.ShloMosaic

/-- A pixel: image, row, column. -/
abbrev Px : Type := Fin 4 × Fin 512 × Fin 512

/-- Scores by image, class, row and column. -/
abbrev Scores : Type := Fin 4 → Fin 21 → Fin 512 → Fin 512 → ℝ

/-- The class of each pixel. -/
abbrev Classes : Type := Px → Fin 21

/-- The weight of the new count in the running count: the number the word `0x3DCCCCCD` denotes, about a tenth. -/
def scale : ℝ := 13421773 / 2 ^ 27

/-- The summand that keeps the denominators away from zero: what `0x358637BD` denotes, about a millionth. -/
def eps : ℝ := 8796093 / 2 ^ 43

theorem scale_pos : 0 < scale := by unfold scale; norm_num

theorem eps_pos : 0 < eps := by unfold eps; norm_num

/-- The scores of a pixel. -/
def px (X : Scores) (p : Px) (c : Fin 21) : ℝ := X p.1 c p.2.1 p.2.2

/-- The score of a pixel's own class. -/
def pt (X : Scores) (T : Classes) (p : Px) : ℝ := px X p (T p)

/-- The cross entropy of scores `x` at class `c`. -/
def ceOf (x : Fin 21 → ℝ) (c : Fin 21) : ℝ := Real.log (∑ k, Real.exp (x k)) - x c

/-- A pixel's cross entropy. -/
def ce (X : Scores) (T : Classes) (p : Px) : ℝ := ceOf (px X p) (T p)

/-- The bin of a score `r`, as an integer before it is known to be one of ten. -/
def binZ (r : ℝ) : ℤ := max 0 (min 9 (⌈|r - 1| * 10⌉ - 1))

theorem binZ_nonneg (r : ℝ) : 0 ≤ binZ r := le_max_left _ _

theorem binZ_le (r : ℝ) : binZ r ≤ 9 := max_le (by norm_num) (min_le_left _ _)

/-- The bin of a score. -/
def binOf (r : ℝ) : Fin 10 := ⟨(binZ r).toNat, by have := binZ_le r; have := binZ_nonneg r; omega⟩

/-- A pixel's bin. -/
def bin (X : Scores) (T : Classes) (p : Px) : Fin 10 := binOf (pt X T p)

/-- How many pixels have bin `k`. -/
def cnt (X : Scores) (T : Classes) (k : Fin 10) : ℝ := ∑ p, if bin X T p = k then 1 else 0

/-- The cross entropy of the pixels of bin `k`. -/
def ces (X : Scores) (T : Classes) (k : Fin 10) : ℝ := ∑ p, if bin X T p = k then ce X T p else 0

/-- The denominator a pixel of bin `k` is divided by. -/
def den (X : Scores) (T : Classes) (k : Fin 10) : ℝ := scale * cnt X T k + eps

theorem cnt_nonneg (X : Scores) (T : Classes) (k : Fin 10) : 0 ≤ cnt X T k :=
  Finset.sum_nonneg fun p _ => by split <;> norm_num

theorem den_pos (X : Scores) (T : Classes) (k : Fin 10) : 0 < den X T k :=
  add_pos_of_nonneg_of_pos (mul_nonneg scale_pos.le (cnt_nonneg X T k)) eps_pos

/-- The loss: the mean over the pixels of the cross entropy divided by the denominator of its bin. -/
def loss (X : Scores) (T : Classes) : ℝ := (∑ p, ce X T p * (1 / den X T (bin X T p))) / 1048576

/-- The loss bin by bin. -/
theorem loss_eq_bins (X : Scores) (T : Classes) : loss X T = (∑ k, ces X T k / den X T k) / 1048576 := by
  unfold loss ces
  congr 1
  have : ∀ k, (∑ p, if bin X T p = k then ce X T p else 0) / den X T k
      = ∑ p, if bin X T p = k then ce X T p / den X T k else 0 := fun k => by
    rw [Finset.sum_div]
    exact Finset.sum_congr rfl fun p _ => by split <;> simp
  rw [Finset.sum_congr rfl fun k _ => this k, Finset.sum_comm]
  refine Finset.sum_congr rfl fun p _ => ?_
  rw [Finset.sum_ite_eq]
  simp [div_eq_mul_inv]

/-- The ten counts add up to the number of pixels. -/
theorem sum_cnt (X : Scores) (T : Classes) : ∑ k, cnt X T k = 1048576 := by
  unfold cnt
  rw [Finset.sum_comm]
  rw [Finset.sum_congr rfl fun p _ => Finset.sum_ite_eq (Finset.univ : Finset (Fin 10)) (bin X T p) fun _ => (1 : ℝ)]
  simp

/-- The ten sums of cross entropies add up to the sum over all pixels. -/
theorem sum_ces (X : Scores) (T : Classes) : ∑ k, ces X T k = ∑ p, ce X T p := by
  unfold ces
  rw [Finset.sum_comm]
  exact Finset.sum_congr rfl fun p _ => by rw [Finset.sum_ite_eq]; simp

/-- The pixels of the last bin are those of no earlier bin. -/
theorem cnt_last (X : Scores) (T : Classes) : cnt X T 9 = 1048576 - ∑ k : Fin 9, cnt X T k.castSucc := by
  rw [← sum_cnt X T, Fin.sum_univ_castSucc]
  exact (add_sub_cancel_left _ _).symm

/-- The cross entropy of the last bin is what the earlier bins leave of the total. -/
theorem ces_last (X : Scores) (T : Classes) : ces X T 9 = (∑ p, ce X T p) - ∑ k : Fin 9, ces X T k.castSucc := by
  rw [← sum_ces X T, Fin.sum_univ_castSucc]
  exact (add_sub_cancel_left _ _).symm

/-- The loss as the shares of nine bins and that of the last. -/
theorem loss_eq_nine_one (X : Scores) (T : Classes) :
    loss X T = ((∑ k : Fin 9, ces X T k.castSucc / den X T k.castSucc) + ces X T 9 / den X T 9) / 1048576 := by
  rw [loss_eq_bins, Fin.sum_univ_castSucc]
  rfl

/-! ## Words and operations of the extended reals at real arguments -/

theorem word_scale : Ideal.ofBits .f32 0x3DCCCCCD#32 = ((scale : ℝ) : EReal) := by
  unfold scale
  simp [Ideal.ofBits, Ideal.ieee, -EReal.coe_mul]; norm_num

theorem word_eps : Ideal.ofBits .f32 0x358637BD#32 = ((eps : ℝ) : EReal) := by
  unfold eps
  simp [Ideal.ofBits, Ideal.ieee, -EReal.coe_mul]; norm_num

theorem word_ten : Ideal.ofBits .f32 0x41200000#32 = ((10 : ℝ) : EReal) := by
  simp [Ideal.ofBits, Ideal.ieee, -EReal.coe_mul]; norm_num

theorem word_pixels : Ideal.ofBits .f32 0x49800000#32 = ((1048576 : ℝ) : EReal) := by
  simp [Ideal.ofBits, Ideal.ieee, -EReal.coe_mul]; norm_num

/-- A quotient of reals with a divisor that is not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem exp_coe (x : ℝ) : Ideal.exp (x : EReal) = ((Real.exp x : ℝ) : EReal) := rfl

theorem log_coe (x : ℝ) (h : 0 < x) : Ideal.log (x : EReal) = ((Real.log x : ℝ) : EReal) := if_neg (not_le.mpr h)

/-- The absolute value, written as the larger of a number and its negative. -/
theorem abs_coe (x : ℝ) : max (x : EReal) (-(x : EReal)) = ((|x| : ℝ) : EReal) := by
  rw [← EReal.coe_neg, abs_eq_max_neg]; exact (EReal.coe_strictMono.monotone.map_max).symm

/-- A finite sum of reals is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Ghm
-- ==== Proof.Inputs.lean ====
module

public import proofs.«01_k».proof.Defs
public import proofs.«01_k».proof.Proof.Spec
public import Idealize.ShloMosaic.Lib.KernelVsHost
public import Idealize.ShloMosaic.Lib.WordArith
public import Idealize.ShloMosaic.Lib.ValueIdx

/-! The precondition read back: the scores are real numbers and the targets are classes. -/

@[expose] public section

noncomputable section

namespace Cert.Pre_finite_scores_and_classes

open Idealize.ShloMosaic Idealize.ShloMosaic.ValueIdx

/-- The shape relations the precondition's operations take. -/
theorem facts : Facts where
  bcast_S_S4x512x512 := by decide
  bcast_S_S4x21x512x512 := by decide
  bcast_S4x512x512_S4x1x512x512_0_2_3 := by decide
  bcast_S4x1x512x512_S4x21x512x512_0_1_2_3 := by decide

/-- The scores as real numbers. -/
def scoresOf (x0 : FVec Ideal S4x21x512x512 .f32) : Ghm.Scores := fun b k y w => EReal.toReal (x0 (ix4 b k y w))

/-- The targets as classes. -/
def classesOf (x1 : IVec S4x512x512 32) : Ghm.Classes := fun p => Fin.ofNat 21 (x1 (ix3 p.1 p.2.1 p.2.2)).toNat

/-- An extended real whose absolute value is below infinity is a real number. -/
theorem real_of_abs_lt (x : Ideal .f32)
    (h : FloatOps.cmpf .olt (FloatOps.hostAbsf x) (FloatOps.ofBits (F := Ideal) .f32 0x7F800000#32) = 1#1) :
    x = ((EReal.toReal x : ℝ) : EReal) := by
  rw [← Ideal.xori_weird_eq_hostAbsf_olt_inf] at h
  refine (EReal.coe_toReal (fun e => ?_) (fun e => ?_)).symm <;> subst e <;> revert h <;>
    simp [FloatOps.weird, IntOp.xori]

/-- A word at least 0 and below 21, as a signed number, is the word of a class. -/
theorem class_of_range (x : BitVec 32) (h : IntOp.andi (IntOp.cmpi .sge x 0#32) (IntOp.cmpi .slt x 21#32) = 1#1) :
    x = BitVec.ofNat 32 (Fin.ofNat 21 x.toNat).val := by
  simp only [IntOp.cmpi, WordArith.andi_ofBool, WordArith.ofBool_eq_one_iff, Bool.and_eq_true] at h
  have hlt := WordArith.toNat_lt_of_zero_sle_of_slt_ofNat x 21 (by omega) h.1 h.2
  simp [Fin.ofNat, Nat.mod_eq_of_lt hlt]

variable [Facts] {x0 : FVec Ideal S4x21x512x512 .f32} {x1 : IVec S4x512x512 32}

/-- The precondition at one score: the score's magnitude is below infinity and its pixel's target is in range. -/
theorem at_score (h : fn (F := Ideal) x0 x1 = fun _ => 1#1) (b : Fin 4) (k : Fin 21) (y w : Fin 512) :
    FloatOps.cmpf .olt (FloatOps.hostAbsf (x0 (ix4 b k y w))) (FloatOps.ofBits (F := Ideal) .f32 0x7F800000#32) = 1#1
      ∧ IntOp.andi (IntOp.cmpi .sge (x1 (ix3 b y w)) 0#32) (IntOp.cmpi .slt (x1 (ix3 b y w)) 21#32) = 1#1 := by
  have e := congrFun h (ix4 b k y w)
  have both (p q : BitVec 1) : IntOp.andi p q = 1#1 → p = 1#1 ∧ q = 1#1 := by
    revert p q; decide
  obtain ⟨e0, e1⟩ := both _ _ e
  refine ⟨e0, (congrArg (fun i => IntOp.andi (IntOp.cmpi .sge (x1 i) 0#32) (IntOp.cmpi .slt (x1 i) 21#32)) ?_).trans e1⟩
  funext a
  match a with
  | ⟨0, _⟩ => rfl
  | ⟨1, _⟩ => rfl
  | ⟨2, _⟩ => rfl

/-- Every score is the real number `scoresOf` reads off it. -/
theorem scores_eq (h : fn (F := Ideal) x0 x1 = fun _ => 1#1) (b : Fin 4) (k : Fin 21) (y w : Fin 512) :
    x0 (ix4 b k y w) = ((scoresOf x0 b k y w : ℝ) : EReal) :=
  real_of_abs_lt _ (at_score h b k y w).1

/-- Every target is the word of the class `classesOf` reads off it. -/
theorem classes_eq (h : fn (F := Ideal) x0 x1 = fun _ => 1#1) (b : Fin 4) (y w : Fin 512) :
    x1 (ix3 b y w) = BitVec.ofNat 32 (classesOf x1 (b, y, w)).val :=
  class_of_range _ (at_score h b 0 y w).2

end Cert.Pre_finite_scores_and_classes

end
-- ==== Proof.Chunk.lean ====
/-
  What the kernel's body does at one grid point, written once: thirty-two chunks of eight rows by two hundred and
  fifty-six columns for each of the two windows of scores, each chunk adding to ten running sums of cross entropies
  and nine running counts.
-/
module

public import proofs.«01_k».proof.Proof.Gen.KernelIdeal
public import Idealize.ShloMosaic.Lib.Pipeline.FrameBody
public import Idealize.ShloMosaic.Lib.Tactic

@[expose] public section

noncomputable section

namespace Cert.KernelIdeal.Ghm

open Cert.KernelIdeal Cert.KernelIdeal.Gen Idealize.ShloMosaic Idealize.ShloMosaic.TcCoe

variable {F : FTy → Type} [FloatOps F]

/-- The scores of a chunk: one eight by two hundred and fifty-six array per class. -/
abbrev ChunkScores (F : FTy → Type) [FloatOps F] : Type := Fin 21 → FVec F S8x256 .f32

/-- One more exponential added to a running sum. -/
def plusExp (x : ChunkScores F) (s : FVec F S8x256 .f32) (c : Fin 21) : FVec F S8x256 .f32 := addf s (exp (x c))

/-- The sum of the exponentials of the scores of a chunk, in the order the body adds them. -/
def sumExp (x : ChunkScores F) : FVec F S8x256 .f32 :=
  let e := plusExp x
  e (e (e (e (e (e (e (e (e (e (e (e (e (e (e (e (e (e (e (e (e (broadcast S8x256 (Scalar.ofBits .f32 0x00000000#32))
    ⟨4, by decide⟩) ⟨5, by decide⟩) ⟨6, by decide⟩) ⟨7, by decide⟩) ⟨0, by decide⟩) ⟨1, by decide⟩) ⟨2, by decide⟩)
    ⟨3, by decide⟩) ⟨12, by decide⟩) ⟨13, by decide⟩) ⟨14, by decide⟩) ⟨15, by decide⟩) ⟨8, by decide⟩) ⟨9, by decide⟩)
    ⟨10, by decide⟩) ⟨11, by decide⟩) ⟨18, by decide⟩) ⟨19, by decide⟩) ⟨16, by decide⟩) ⟨17, by decide⟩) ⟨20, by decide⟩

/-- Whether a bit of the class word is set. -/
def bitSet (t : IVec S8x256 32) (b : BitVec 32) : IVec S8x256 1 :=
  cmpi .ne (andi t (broadcast S8x256 b)) (broadcast S8x256 0#32)

/-- The one of two neighbouring classes the lowest bit names. -/
def pick2 (x : ChunkScores F) (t : IVec S8x256 32) (hi lo : Fin 21) : FVec F S8x256 .f32 :=
  select (bitSet t 1#32) (x hi) (x lo)

/-- The one of four neighbouring classes the two lowest bits name. -/
def pick4 (x : ChunkScores F) (t : IVec S8x256 32) (c3 c2 c1 c0 : Fin 21) : FVec F S8x256 .f32 :=
  select (bitSet t 2#32) (pick2 x t c3 c2) (pick2 x t c1 c0)

/-- The score of each position's own class, chosen by the bits of the class word. -/
def pick (x : ChunkScores F) (t : IVec S8x256 32) : FVec F S8x256 .f32 :=
  select (cmpi .sge t (broadcast S8x256 16#32))
    (select (bitSet t 4#32) (x ⟨20, by decide⟩)
      (pick4 x t ⟨19, by decide⟩ ⟨18, by decide⟩ ⟨17, by decide⟩ ⟨16, by decide⟩))
    (select (bitSet t 8#32)
      (select (bitSet t 4#32)
        (pick4 x t ⟨15, by decide⟩ ⟨14, by decide⟩ ⟨13, by decide⟩ ⟨12, by decide⟩)
        (pick4 x t ⟨11, by decide⟩ ⟨10, by decide⟩ ⟨9, by decide⟩ ⟨8, by decide⟩))
      (select (bitSet t 4#32)
        (pick4 x t ⟨7, by decide⟩ ⟨6, by decide⟩ ⟨5, by decide⟩ ⟨4, by decide⟩)
        (pick4 x t ⟨3, by decide⟩ ⟨2, by decide⟩ ⟨1, by decide⟩ ⟨0, by decide⟩)))

/-- The cross entropy of each position. -/
def chunkCe (x : ChunkScores F) (t : IVec S8x256 32) : FVec F S8x256 .f32 := subf (log (sumExp x)) (pick x t)

/-- The bin of each position. -/
def chunkBin (x : ChunkScores F) (t : IVec S8x256 32) : IVec S8x256 32 :=
  minsi (broadcast S8x256 9#32) (maxsi (broadcast S8x256 0#32)
    (subi (fptosi 32 (ceil (mulf (absf (subf (pick x t) (broadcast S8x256 (Scalar.ofBits .f32 0x3F800000#32))))
      (broadcast S8x256 (Scalar.ofBits .f32 0x41200000#32))))) (broadcast S8x256 1#32)))

/-- The left half of a chunk plus its right half. -/
def halves (v : FVec F S8x256 .f32) : FVec F S8x128 .f32 :=
  addf (extractStridedSlice S8x128 ![0, 0] v slices_S8x256_o0_0_S8x128)
    (extractStridedSlice S8x128 ![0, 128] v slices_S8x256_o0_128_S8x128)

/-- One where the bin is `k`, zero elsewhere. -/
def chunkCnt (k : BitVec 32) (x : ChunkScores F) (t : IVec S8x256 32) : FVec F S8x256 .f32 :=
  select (cmpi .eq (chunkBin x t) (broadcast S8x256 k)) (broadcast S8x256 (Scalar.ofBits .f32 0x3F800000#32))
    (broadcast S8x256 (Scalar.ofBits .f32 0x00000000#32))

/-- The cross entropy where the bin is `k`, zero elsewhere. -/
def chunkCes (k : BitVec 32) (x : ChunkScores F) (t : IVec S8x256 32) : FVec F S8x256 .f32 :=
  select (cmpi .eq (chunkBin x t) (broadcast S8x256 k)) (chunkCe x t)
    (broadcast S8x256 (Scalar.ofBits .f32 0x00000000#32))

theorem inb_scores (n c : ℕ) (hc : c < 21) :
    ∀ a, (![0, c, 8 * (n / 2) % 128, 256 * (n % 2)] : Fin 4 → ℕ) a + S1x1x8x256.size a ≤ S1x21x128x512.size a := by
  intro a
  match a with
  | ⟨0, _⟩ => show 0 + 1 ≤ 1; omega
  | ⟨1, _⟩ => show c + 1 ≤ 21; omega
  | ⟨2, _⟩ => show 8 * (n / 2) % 128 + 8 ≤ 128; omega
  | ⟨3, _⟩ => show 256 * (n % 2) + 256 ≤ 512; omega

theorem inb_classes (n h : ℕ) (hh : h < 2) :
    ∀ a, (![0, 128 * h + 8 * (n / 2) % 128, 256 * (n % 2)] : Fin 3 → ℕ) a + S1x8x256.size a ≤ S1x256x512.size a := by
  intro a
  match a with
  | ⟨0, _⟩ => show 0 + 1 ≤ 1; omega
  | ⟨1, _⟩ => show 128 * h + 8 * (n / 2) % 128 + 8 ≤ 256; omega
  | ⟨2, _⟩ => show 256 * (n % 2) + 256 ≤ 512; omega

/-- The scores of chunk `n` of a window of scores. -/
def scoresAt (a : Memref sig .tc .vmem S1x21x128x512 .f32) (ha : a.IsWhole) (x : Vec F S1x21x128x512 .f32) (n : ℕ) :
    ChunkScores F := fun c =>
  shapeCast S8x256 (View.readAt (Elt F) a.view
    (Rect.unit (s := S1x21x128x512) ![0, c.val, 8 * (n / 2) % 128, 256 * (n % 2)] S1x1x8x256.size (inb_scores n c.val c.isLt)).toLoadRect
    (ha.unread x)) shapeCasts_S1x1x8x256_S8x256

/-- The classes of chunk `n` of half `h` of the window of classes. -/
def classesAt (a : Memref sig .tc .vmem S1x256x512 .i32) (ha : a.IsWhole) (t : Vec F S1x256x512 .i32) (h : Fin 2)
    (n : ℕ) : IVec S8x256 32 :=
  shapeCast S8x256 (View.readAt (Elt F) a.view
    (Rect.unit (s := S1x256x512) ![0, 128 * h.val + 8 * (n / 2) % 128, 256 * (n % 2)] S1x8x256.size (inb_classes n h.val h.isLt)).toLoadRect
    (ha.unread t)) shapeCasts_S1x8x256_S8x256

/-- `n` chunks added to a running array, chunk `i` adding the halves of `v i`. -/
def addChunks (v : ℕ → FVec F S8x256 .f32) (s : FVec F S8x128 .f32) (n : ℕ) : FVec F S8x128 .f32 :=
  Nat.rec s (fun i r => addf r (halves (v i))) n

section
variable (a2 : Memref sig .tc .vmem S1x21x128x512 .f32) (h2 : a2.IsWhole)
  (a3 : Memref sig .tc .vmem S1x21x128x512 .f32) (h3 : a3.IsWhole)
  (a4 : Memref sig .tc .vmem S1x256x512 .i32) (h4 : a4.IsWhole)
  (x0 x1 : Vec F S1x21x128x512 .f32) (x2 : Vec F S1x256x512 .i32)

/-- A function of scores and classes summed over the chunks of both windows, onto a running array. -/
def addPoint (f : ChunkScores F → IVec S8x256 32 → FVec F S8x256 .f32) (s : FVec F S8x128 .f32) : FVec F S8x128 .f32 :=
  addChunks (fun n => f (scoresAt a3 h3 x1 n) (classesAt a4 h4 x2 ⟨1, by decide⟩ n))
    (addChunks (fun n => f (scoresAt a2 h2 x0 n) (classesAt a4 h4 x2 ⟨0, by decide⟩ n)) s 32) 32

end

end Cert.KernelIdeal.Ghm
-- ==== Proof.Pieces.lean ====
/-
  What the three cases of the kernel's body store, as folds over the chunks of their windows: the pieces found by
  running each case are the pieces written down here.
-/
module

public import proofs.«01_k».proof.Proof.Gen.KernelIdeal.Frame
public import proofs.«01_k».proof.Proof.Chunk

@[expose] public section

set_option maxRecDepth 100000
set_option maxHeartbeats 8000000

noncomputable section

namespace Cert.KernelIdeal.Ghm

open Cert.KernelIdeal Cert.KernelIdeal.Gen Idealize.ShloMosaic Idealize.ShloMosaic.TcCoe

variable {F : FTy → Type} [FloatOps F]

theorem inb_row (j k : ℕ) (hj : j < 2) (hk : k < 10) :
    ∀ a, (![j, k, 0, 0] : Fin 4 → ℕ) a + S1x1x8x128.size a ≤ S2x10x8x128.size a := by
  intro a
  match a with
  | ⟨0, _⟩ => show j + 1 ≤ 2; omega
  | ⟨1, _⟩ => show k + 1 ≤ 10; omega
  | ⟨2, _⟩ => show 0 + 8 ≤ 8; omega
  | ⟨3, _⟩ => show 0 + 128 ≤ 128; omega

/-- The store of an array into row `(j, k)` of the running sums. -/
def rowPiece (j k : ℕ) (hj : j < 2) (hk : k < 10) (v : FVec F S8x128 .f32) : View.Piece (Elt F) S2x10x8x128 .f32 :=
  ⟨Rect.unit (s := S2x10x8x128) ![j, k, 0, 0] S1x1x8x128.size (inb_row j k hj hk),
    shapeCast S1x1x8x128 v shapeCasts_S8x128_S1x1x8x128⟩

/-- The stores of rows `(j, 0)` to `(j, n - 1)`, the last one first, above those in `L`. -/
def rowPieces (j : ℕ) (hj : j < 2) (v : ℕ → FVec F S8x128 .f32) (L : List (View.Piece (Elt F) S2x10x8x128 .f32)) :
    (n : ℕ) → n ≤ 10 → List (View.Piece (Elt F) S2x10x8x128 .f32)
  | 0, _ => L
  | n + 1, h => rowPiece j n hj h (v n) :: rowPieces j hj v L n (Nat.le_of_succ_le h)

/-- All stores of one point: nine rows of counts, then ten rows of cross entropies. -/
def pointPieces (cnt ces : ℕ → FVec F S8x128 .f32) (L : List (View.Piece (Elt F) S2x10x8x128 .f32)) :
    List (View.Piece (Elt F) S2x10x8x128 .f32) :=
  rowPieces 1 (by decide) ces (rowPieces 0 (by decide) cnt L 9 (by decide)) 10 (by decide)

/-- The store of zeros the first point begins with. -/
def zeroPiece : View.Piece (Elt F) S2x10x8x128 .f32 :=
  ⟨Rect.unit (s := S2x10x8x128) ![0, 0, 0, 0] S2x10x8x128.size inb_S2x10x8x128_S2x10x8x128_0_0_0_0, k0_pay22⟩

/-- Row `(j, k)` of the running sums, as loaded from what the buffer holds. -/
def rowAt (a6 : Memref sig .tc .vmem S2x10x8x128 .f32) (h6 : a6.IsWhole) (xs : Vec F S2x10x8x128 .f32)
    (j k : ℕ) (hj : j < 2) (hk : k < 10) : FVec F S8x128 .f32 :=
  shapeCast S8x128 (View.readAt (Elt F) a6.view
    (Rect.unit (s := S2x10x8x128) ![j, k, 0, 0] S1x1x8x128.size (inb_row j k hj hk)).toLoadRect (h6.unread xs))
    shapeCasts_S1x1x8x128_S8x128

/-- Row `(j, k)` of the running sums, as loaded after the store of zeros. -/
def rowZero (a6 : Memref sig .tc .vmem S2x10x8x128 .f32) (j k : ℕ) (hj : j < 2) (hk : k < 10) : FVec F S8x128 .f32 :=
  shapeCast S8x128 (View.readCov (Val := Elt F) a6.view [zeroPiece]
    (Rect.unit (s := S2x10x8x128) ![j, k, 0, 0] S1x1x8x128.size (inb_row j k hj hk)).toLoadRect)
    shapeCasts_S1x1x8x128_S8x128

/-- What row `k` of the cross entropies gathers: those of bin `k`, and all of them in row nine. -/
def cesFn (k : ℕ) : ChunkScores F → IVec S8x256 32 → FVec F S8x256 .f32 :=
  Nat.rec chunkCe (fun _ _ => chunkCes (BitVec.ofNat 32 k)) (9 - k)

/-- The sum of all entries of an array. -/
def total (v : FVec F S8x128 .f32) : F .f32 :=
  extractAt ![0, 0, 0] (shapeCast S1x1x1 (multiReduction .add [1, 2] S1 (shapeCast S1x8x128 v shapeCasts_S8x128_S1x8x128)
    0x00000000#32 reduces_S1x8x128_S1 (.inl rfl) rfl) shapeCasts_S1_S1x1x1) inpos_S1x1x1_p0_0_0

/-- A cross-entropy sum over the weighted count of its bin. -/
def share (ces cnt : F .f32) : F .f32 :=
  Scalar.divf ces (Scalar.addf (Scalar.mulf (Scalar.ofBits .f32 0x3DCCCCCD#32) cnt) (Scalar.ofBits .f32 0x358637BD#32))

/-- `s` less the first `n` of `v`. -/
def less (s : F .f32) (v : ℕ → F .f32) (n : ℕ) : F .f32 := Nat.rec s (fun k r => Scalar.subf r (v k)) n

/-- `s` and the first `n` of `v`. -/
def more (s : F .f32) (v : ℕ → F .f32) (n : ℕ) : F .f32 := Nat.rec s (fun k r => Scalar.addf r (v k)) n

/-- The loss from the ten rows of cross entropies and the nine rows of counts. -/
def finish (cnt ces : ℕ → FVec F S8x128 .f32) : F .f32 :=
  Scalar.divf (Scalar.addf
      (more (Scalar.ofBits .f32 0x00000000#32) (fun k => share (total (ces k)) (total (cnt k))) 9)
      (share (less (total (ces 9)) (fun k => total (ces k)) 9)
        (less (Scalar.ofBits .f32 0x49800000#32) (fun k => total (cnt k)) 9)))
    (Scalar.ofBits .f32 0x49800000#32)

section
variable (c : Dev nD) (i : grid0.Coords)
  (a2 : Memref sig .tc .vmem S1x21x128x512 .f32) (h2 : a2.IsWhole)
  (a3 : Memref sig .tc .vmem S1x21x128x512 .f32) (h3 : a3.IsWhole)
  (a4 : Memref sig .tc .vmem S1x256x512 .i32) (h4 : a4.IsWhole)
  (a5 : Memref sig .tc .smem S1x1 .f32) (h5 : a5.IsWhole)
  (a6 : Memref sig .tc .vmem S2x10x8x128 .f32) (h6 : a6.IsWhole)
  (x0 x1 : Vec F S1x21x128x512 .f32) (x2 : Vec F S1x256x512 .i32) (xs : Vec F S2x10x8x128 .f32)

/-- Row `k` of the counts after a point, from what the rows held before. -/
def newCnt (s : (j k : ℕ) → j < 2 → k < 10 → FVec F S8x128 .f32) (k : ℕ) : FVec F S8x128 .f32 :=
  addPoint a2 h2 a3 h3 a4 h4 x0 x1 x2 (chunkCnt (BitVec.ofNat 32 k)) (s 0 (k % 10) (by decide) (Nat.mod_lt _ (by decide)))

/-- Row `k` of the cross entropies after a point, from what the rows held before. -/
def newCes (s : (j k : ℕ) → j < 2 → k < 10 → FVec F S8x128 .f32) (k : ℕ) : FVec F S8x128 .f32 :=
  addPoint a2 h2 a3 h3 a4 h4 x0 x1 x2 (cesFn k) (s 1 (k % 10) (by decide) (Nat.mod_lt _ (by decide)))

/-- The pieces the first point stores. -/
theorem pieces_A (hc0 : cond0_0 i) (hc1 : ¬cond0_1 i) :
    (kernelRun0_A c i a2 h2 a3 h3 a4 h4 a5 h5 a6 h6 hc0 hc1 x0 x1 x2).2.1
      = pointPieces (newCnt a2 h2 a3 h3 a4 h4 x0 x1 x2 (rowZero a6)) (newCes a2 h2 a3 h3 a4 h4 x0 x1 x2 (rowZero a6))
          [zeroPiece] := by
  unfold kernelRun0_A
  rfl

/-- The pieces a point in the middle stores. -/
theorem pieces_B (hc0 : ¬cond0_0 i) (hc1 : ¬cond0_1 i) :
    (kernelRun0_B c i a2 h2 a3 h3 a4 h4 a5 h5 a6 h6 hc0 hc1 x0 x1 x2 xs).2.1
      = pointPieces (newCnt a2 h2 a3 h3 a4 h4 x0 x1 x2 (rowAt a6 h6 xs)) (newCes a2 h2 a3 h3 a4 h4 x0 x1 x2 (rowAt a6 h6 xs))
          [] := by
  unfold kernelRun0_B
  rfl

/-- The one value the last point stores into the result. -/
theorem result_C (hc0 : ¬cond0_0 i) (hc1 : cond0_1 i) :
    (kernelRun0_C c i a2 h2 a3 h3 a4 h4 a5 h5 a6 h6 hc0 hc1 x0 x1 x2 xs).1
      = [⟨Rect.unit (s := S1x1) ![0, 0] ![1, 1] inb_S1x1_S1x1_0_0, fun _ =>
          finish (newCnt a2 h2 a3 h3 a4 h4 x0 x1 x2 (rowAt a6 h6 xs)) (newCes a2 h2 a3 h3 a4 h4 x0 x1 x2 (rowAt a6 h6 xs))⟩] := by
  unfold kernelRun0_C
  rfl

end

end Cert.KernelIdeal.Ghm
-- ==== Proof.Loads.lean ====
/-
  The loads read at a position: an element of a chunk is an element of its window's block, and an element of a block
  is an element of the kernel's argument.
-/
module

public import proofs.«01_k».proof.Proof.Gen.KernelIdeal.Value
public import proofs.«01_k».proof.Proof.Pieces
public import Idealize.ShloMosaic.Lib.Pointwise
public import Idealize.ShloMosaic.Lib.Pipeline.ValueKit

@[expose] public section

noncomputable section

namespace Cert.KernelIdeal.Ghm

open Cert.KernelIdeal Cert.KernelIdeal.Gen Idealize.ShloMosaic Idealize.ShloMosaic.TcCoe

variable {F : FTy → Type} [FloatOps F]

theorem cast4_apply {α : Type} (v : S1x1x8x256.Idx → α) (r : Fin 8) (w : Fin 256) :
    shapeCast S8x256 v shapeCasts_S1x1x8x256_S8x256 (ix2 r w) = v (ix4 0 0 r w) := by
  pointwise []

theorem cast3_apply {α : Type} (v : S1x8x256.Idx → α) (r : Fin 8) (w : Fin 256) :
    shapeCast S8x256 v shapeCasts_S1x8x256_S8x256 (ix2 r w) = v (ix3 0 r w) := by
  pointwise []

theorem castRow_apply {α : Type} (v : S1x1x8x128.Idx → α) (r : Fin 8) (l : Fin 128) :
    shapeCast S8x128 v shapeCasts_S1x1x8x128_S8x128 (ix2 r l) = v (ix4 0 0 r l) := by
  pointwise []

theorem toRow_apply {α : Type} (v : S8x128.Idx → α) (r : Fin 8) (l : Fin 128) :
    shapeCast S1x1x8x128 v shapeCasts_S8x128_S1x1x8x128 (ix4 0 0 r l) = v (ix2 r l) := by
  pointwise []

/-- An element of a chunk of scores. -/
theorem scoresAt_apply (a : Memref sig .tc .vmem S1x21x128x512 .f32) (ha : a.IsWhole) (x : Vec F S1x21x128x512 .f32)
    (n : ℕ) (hn : n < 32) (k : Fin 21) (r : Fin 8) (w : Fin 256) :
    scoresAt a ha x n k (ix2 r w)
      = x (ix4 0 k ⟨8 * (n / 2) + r.val, by omega⟩ ⟨256 * (n % 2) + w.val, by omega⟩) := by
  unfold scoresAt
  rw [cast4_apply, View.readAt_eq_ld, ha.read_unread, View.ld_apply]
  congr 1
  funext d
  apply Fin.ext
  rw [Rect.idx_unit_val]
  match d with
  | ⟨0, _⟩ => rfl
  | ⟨1, _⟩ => show k.val + 0 = k.val; omega
  | ⟨2, _⟩ => show 8 * (n / 2) % 128 + r.val = 8 * (n / 2) + r.val; omega
  | ⟨3, _⟩ => rfl

/-- An element of a chunk of classes. -/
theorem classesAt_apply (a : Memref sig .tc .vmem S1x256x512 .i32) (ha : a.IsWhole) (t : Vec F S1x256x512 .i32) (h : Fin 2)
    (n : ℕ) (hn : n < 32) (r : Fin 8) (w : Fin 256) :
    classesAt (F := F) a ha t h n (ix2 r w)
      = t (ix3 0 ⟨128 * h.val + 8 * (n / 2) + r.val, by omega⟩ ⟨256 * (n % 2) + w.val, by omega⟩) := by
  unfold classesAt
  rw [cast3_apply, View.readAt_eq_ld, ha.read_unread, View.ld_apply]
  congr 1
  funext d
  apply Fin.ext
  rw [Rect.idx_unit_val]
  match d with
  | ⟨0, _⟩ => rfl
  | ⟨1, _⟩ => show 128 * h.val + 8 * (n / 2) % 128 + r.val = 128 * h.val + 8 * (n / 2) + r.val; omega
  | ⟨2, _⟩ => rfl

section
variable (m : (ℓ : Loc nD τ sig) → Buf (Elt F) ℓ) (c : Dev nD) (t : Fin cfg0.N)

/-- The blocks the windows are at, point by point. -/
theorem block_index : win0_0.index t = ![t.val / 2, 0, 2 * (t.val % 2), 0]
    ∧ win0_1.index t = ![t.val / 2, 0, 2 * (t.val % 2) + 1, 0] ∧ win0_2.index t = ![t.val / 2, t.val % 2, 0] := by
  revert t
  decide +kernel

theorem t_lt : t.val < 8 := lt_of_lt_of_eq t.isLt (show cfg0.N = 8 from N_0)

/-- The first window's block: rows 0 to 127 of a half image's 256. -/
theorem block0_apply (k : Fin 21) (y : Fin 128) (w : Fin 512) :
    (iblk m c 0 t : Vec F S1x21x128x512 .f32) (ix4 0 k y w)
      = m (c.tc.loc main_arg0) (ix4 ⟨t.val / 2, by have := t_lt t; omega⟩ k ⟨256 * (t.val % 2) + y.val, by omega⟩ w) := by
  have hi := (block_index t).1
  blk_ext [iblk, V, hi]

/-- The second window's block: rows 128 to 255 of a half image's 256. -/
theorem block1_apply (k : Fin 21) (y : Fin 128) (w : Fin 512) :
    (iblk m c 1 t : Vec F S1x21x128x512 .f32) (ix4 0 k y w)
      = m (c.tc.loc main_arg0) (ix4 ⟨t.val / 2, by have := t_lt t; omega⟩ k ⟨256 * (t.val % 2) + 128 + y.val, by omega⟩ w) := by
  have hi := (block_index t).2.1
  blk_ext [iblk, V, hi]

/-- The window of classes: all 256 rows. -/
theorem block2_apply (y : Fin 256) (w : Fin 512) :
    (iblk m c 2 t : Vec F S1x256x512 .i32) (ix3 0 y w)
      = m (c.tc.loc main_arg1) (ix3 ⟨t.val / 2, by have := t_lt t; omega⟩ ⟨256 * (t.val % 2) + y.val, by omega⟩ w) := by
  have hi := (block_index t).2.2
  blk_ext [iblk, V, hi]

end

end Cert.KernelIdeal.Ghm
-- ==== Proof.Pixel.lean ====
/-
  What a chunk's arrays are at one position, over the extended reals: when the scores there are real numbers and the
  class word is a class, the cross entropy, the bin and the two selections are those of the plain mathematics.
-/
module

public import proofs.«01_k».proof.Proof.Chunk
public import proofs.«01_k».proof.Proof.Spec
public import Idealize.ShloMosaic.Lib.Pointwise

@[expose] public section

noncomputable section

namespace Cert.KernelIdeal.Ghm

open Cert.KernelIdeal Cert.KernelIdeal.Gen Idealize.ShloMosaic Idealize.ShloMosaic.TcCoe

section
variable (x : ChunkScores Ideal) (t : IVec S8x256 32) (j : S8x256.Idx) (X : Fin 21 → ℝ) (T : Fin 21)

/-- The score picked by the bits of the class word is the score of the class. -/
theorem pick_at (ht : t j = BitVec.ofNat 32 T.val) : pick x t j = x T j := by
  pointwise [pick, pick4, pick2, bitSet]
  rw [ht]
  fin_cases T <;> rfl

/-- The sum over the classes in the order the body adds the exponentials. -/
theorem sum_in_order (f : Fin 21 → ℝ) :
    f ⟨4, by decide⟩ + f ⟨5, by decide⟩ + f ⟨6, by decide⟩ + f ⟨7, by decide⟩ + f ⟨0, by decide⟩ + f ⟨1, by decide⟩
      + f ⟨2, by decide⟩ + f ⟨3, by decide⟩ + f ⟨12, by decide⟩ + f ⟨13, by decide⟩ + f ⟨14, by decide⟩
      + f ⟨15, by decide⟩ + f ⟨8, by decide⟩ + f ⟨9, by decide⟩ + f ⟨10, by decide⟩ + f ⟨11, by decide⟩
      + f ⟨18, by decide⟩ + f ⟨19, by decide⟩ + f ⟨16, by decide⟩ + f ⟨17, by decide⟩ + f ⟨20, by decide⟩ = ∑ c, f c := by
  have hf : ∀ c, f c = (fun n : ℕ => if h : n < 21 then f ⟨n, h⟩ else 0) c.val := fun c => by simp
  generalize (fun n : ℕ => if h : n < 21 then f ⟨n, h⟩ else 0) = g at hf
  simp only [hf, Fin.sum_univ_eq_sum_range g 21, Finset.sum_range_succ, Finset.sum_range_zero]
  ring

/-- The sum of the exponentials. -/
theorem sumExp_at (hx : ∀ c, x c j = ((X c : ℝ) : EReal)) :
    sumExp x j = ((∑ c, Real.exp (X c) : ℝ) : EReal) := by
  pointwise [sumExp, plusExp]
  simp only [hx, Ghm.exp_coe, zero_add, ← EReal.coe_add]
  exact congrArg _ (sum_in_order fun c => Real.exp (X c))

/-- The cross entropy. -/
theorem chunkCe_at (hx : ∀ c, x c j = ((X c : ℝ) : EReal)) (ht : t j = BitVec.ofNat 32 T.val) :
    chunkCe x t j = ((Ghm.ceOf X T : ℝ) : EReal) := by
  have e : chunkCe x t j = Ideal.log (sumExp x j) - pick x t j := by pointwise [chunkCe]
  rw [e, sumExp_at x j X hx, pick_at x t j T ht, hx,
    Ghm.log_coe _ (Finset.sum_pos (fun c _ => Real.exp_pos _) ⟨0, Finset.mem_univ _⟩), ← EReal.coe_sub]
  rfl

/-- Clamping to the ten bins, on words. -/
theorem clamp_word (m : ℤ) (h0 : 0 ≤ m) (h1 : m < 2 ^ 31) :
    IntOp.minsi 9#32 (IntOp.maxsi 0#32 (BitVec.ofInt 32 m - 1#32)) = BitVec.ofNat 32 (max 0 (min 9 (m - 1))).toNat := by
  have e : (BitVec.ofInt 32 m - 1#32).toInt = m - 1 := by
    rw [show BitVec.ofInt 32 m - 1#32 = BitVec.ofInt 32 (m - 1) by
      apply BitVec.eq_of_toInt_eq; simp [BitVec.toInt_sub, BitVec.toInt_ofInt]]
    rw [BitVec.toInt_ofInt]
    exact Int.bmod_eq_of_le (by omega) (by omega)
  generalize BitVec.ofInt 32 m - 1#32 = w at e
  apply BitVec.eq_of_toInt_eq
  have z0 : (0#32 : BitVec 32).toInt = 0 := by decide
  have z9 : (9#32 : BitVec 32).toInt = 9 := by decide
  have zn : (BitVec.ofNat 32 (max 0 (min 9 (m - 1))).toNat).toInt = max 0 (min 9 (m - 1)) := by
    rw [BitVec.toInt_ofNat']
    rw [Int.bmod_eq_of_le (by omega) (by omega)]
    omega
  rw [zn]
  unfold IntOp.minsi IntOp.maxsi
  simp only [BitVec.slt_eq_decide, decide_eq_true_eq, z9]
  split <;> split at * <;> simp_all <;> omega

/-- The bin. -/
theorem chunkBin_at (hx : ∀ c, x c j = ((X c : ℝ) : EReal)) (ht : t j = BitVec.ofNat 32 T.val) :
    chunkBin x t j = BitVec.ofNat 32 (Ghm.binOf (X T)).val := by
  have e : chunkBin x t j = IntOp.minsi 9#32 (IntOp.maxsi 0#32 (Ideal.fptosi 32 (Ideal.liftRound Int.ceil
      (max (pick x t j - Ideal.ofBits .f32 0x3F800000#32) (-(pick x t j - Ideal.ofBits .f32 0x3F800000#32))
        * Ideal.ofBits .f32 0x41200000#32)) - 1#32)) := by
    pointwise [chunkBin]
    rfl
  have h1 : Ideal.ofBits .f32 0x3F800000#32 = ((1 : ℝ) : EReal) := by simpa using Ideal.ofBits_one_f32
  rw [e, pick_at x t j T ht, hx, h1, ← EReal.coe_sub, Ghm.abs_coe, Ghm.word_ten, ← EReal.coe_mul]
  have hz : (0 : ℤ) ≤ ⌈|X T - 1| * 10⌉ := Int.ceil_nonneg (by positivity)
  have hr : (0 : ℝ) ≤ ((⌈|X T - 1| * 10⌉ : ℤ) : ℝ) := by exact_mod_cast hz
  have hb : Ghm.binZ (X T) = max 0 (min 9 (⌈|X T - 1| * 10⌉ - 1)) := rfl
  show IntOp.minsi 9#32 (IntOp.maxsi 0#32 (BitVec.ofInt 32 (max _ (min _ (if (0 : ℝ) ≤ ((⌈|X T - 1| * 10⌉ : ℤ) : ℝ) then ⌊((⌈|X T - 1| * 10⌉ : ℤ) : ℝ)⌋ else _))) - 1#32))
    = BitVec.ofNat 32 (Ghm.binZ (X T)).toNat
  rw [if_pos hr, Int.floor_intCast, hb]
  generalize ⌈|X T - 1| * 10⌉ = z at *
  rw [clamp_word _ (by norm_num; omega) (by norm_num)]
  congr 2
  norm_num
  omega

/-- Whether the bin is `k`. -/
theorem isBin (k : ℕ) (hk : k < 10) (hx : ∀ c, x c j = ((X c : ℝ) : EReal)) (ht : t j = BitVec.ofNat 32 T.val) :
    (chunkBin x t j = BitVec.ofNat 32 k) ↔ Ghm.binOf (X T) = ⟨k, hk⟩ := by
  rw [chunkBin_at x t j X T hx ht, Fin.ext_iff]
  have := (Ghm.binOf (X T)).isLt
  constructor
  · intro h
    have := congrArg BitVec.toNat h
    simp only [BitVec.toNat_ofNat] at this
    show (Ghm.binOf (X T)).val = k
    omega
  · intro h; exact congrArg _ h

/-- A select on the equality of two words. -/
theorem select_eq_ite {α : Type} (a b : BitVec 32) (u v : α) :
    Scalar.select (IntOp.cmpi .eq a b) u v = if a = b then u else v := by
  unfold Scalar.select IntOp.cmpi
  by_cases h : a = b
  · simp [h]
  · have hb : (a == b) = false := by simpa using h
    rw [if_neg h]
    show (if BitVec.ofBool (a == b) = 1#1 then u else v) = v
    rw [hb]
    exact if_neg (by decide)

/-- One in the bin `k`, zero elsewhere. -/
theorem chunkCnt_at (k : ℕ) (hk : k < 10) (hx : ∀ c, x c j = ((X c : ℝ) : EReal)) (ht : t j = BitVec.ofNat 32 T.val) :
    chunkCnt (BitVec.ofNat 32 k) x t j = ((if Ghm.binOf (X T) = ⟨k, hk⟩ then 1 else 0 : ℝ) : EReal) := by
  have e : chunkCnt (BitVec.ofNat 32 k) x t j
      = if chunkBin x t j = BitVec.ofNat 32 k then Ideal.ofBits .f32 0x3F800000#32 else Ideal.ofBits .f32 0x00000000#32 := by
    pointwise [chunkCnt]
    exact select_eq_ite _ _ _ _
  have h1 : Ideal.ofBits .f32 0x3F800000#32 = 1 := Ideal.ofBits_one_f32
  have h0 : Ideal.ofBits .f32 0x00000000#32 = 0 := Ideal.ofBits_zero_f32
  rw [e, h1, h0]
  simp only [isBin x t j X T k hk hx ht]
  split <;> simp

/-- The cross entropy in the bin `k`, zero elsewhere. -/
theorem chunkCes_at (k : ℕ) (hk : k < 10) (hx : ∀ c, x c j = ((X c : ℝ) : EReal)) (ht : t j = BitVec.ofNat 32 T.val) :
    chunkCes (BitVec.ofNat 32 k) x t j = ((if Ghm.binOf (X T) = ⟨k, hk⟩ then Ghm.ceOf X T else 0 : ℝ) : EReal) := by
  have e : chunkCes (BitVec.ofNat 32 k) x t j
      = if chunkBin x t j = BitVec.ofNat 32 k then chunkCe x t j else Ideal.ofBits .f32 0x00000000#32 := by
    pointwise [chunkCes]
    exact select_eq_ite _ _ _ _
  have h0 : Ideal.ofBits .f32 0x00000000#32 = 0 := Ideal.ofBits_zero_f32
  rw [e, h0, chunkCe_at x t j X T hx ht]
  simp only [isBin x t j X T k hk hx ht]
  split <;> simp

end

end Cert.KernelIdeal.Ghm
-- ==== Proof.Rows.lean ====
/-
  The rows of running sums after each grid point, over the extended reals: row `k` of the counts holds, lane by lane,
  how many of the pixels seen so far lie in bin `k`, row `k` of the cross entropies their cross entropies' sum.
-/
module

public import proofs.«01_k».proof.Proof.Loads
public import proofs.«01_k».proof.Proof.Pixel
public import Idealize.ShloMosaic.Lib.WritesUnit
public import Idealize.ShloMosaic.Lib.VecWindow

@[expose] public section

noncomputable section

namespace Cert.KernelIdeal.Ghm

open Cert.KernelIdeal Cert.KernelIdeal.Gen Idealize.ShloMosaic Idealize.ShloMosaic.TcCoe

section
variable {F : FTy → Type} [FloatOps F]
variable (v : View sig .tc .vmem S2x10x8x128 .f32) (f : v.ty.Contents (Elt F))

/-- A row stored by one of a run of row stores reads back as what was stored. -/
theorem read_rowPieces (j : ℕ) (hj : j < 2) (val : ℕ → FVec F S8x128 .f32) (L : List (View.Piece (Elt F) S2x10x8x128 .f32))
    (n : ℕ) (hn : n ≤ 10) (k : ℕ) (hk : k < n) (r : Fin 8) (l : Fin 128) :
    v.read (Elt F) (v.writes (Elt F) f (rowPieces j hj val L n hn)) (ix4 ⟨j, hj⟩ ⟨k, by omega⟩ r l) = val k (ix2 r l) := by
  induction n with
  | zero => omega
  | succ n ih =>
    unfold rowPieces rowPiece
    by_cases h : k = n
    · subst h
      rw [View.read_writes_cons_unit_of_mem v f (inb_row j k hj hn) _ _ (ix4 ⟨j, hj⟩ ⟨k, by omega⟩ r l) (ix4 0 0 r l) rfl
        (fun a => by
          match a with
          | ⟨0, _⟩ => rfl
          | ⟨1, _⟩ => rfl
          | ⟨2, _⟩ => exact (Nat.zero_add _).symm
          | ⟨3, _⟩ => exact (Nat.zero_add _).symm)]
      exact toRow_apply _ r l
    · rw [View.read_writes_cons_unit_of_not_mem v f (inb_row j n hj hn) _ _ (ix4 ⟨j, hj⟩ ⟨k, by omega⟩ r l) rfl (1 : Fin 4)
        (Or.inl (show k < n by omega))]
      exact ih _ (by omega)

/-- A row of the other group is not touched by a run of row stores. -/
theorem read_rowPieces_other (j : ℕ) (hj : j < 2) (val : ℕ → FVec F S8x128 .f32)
    (L : List (View.Piece (Elt F) S2x10x8x128 .f32)) (n : ℕ) (hn : n ≤ 10) (y : S2x10x8x128.Idx) (hy : (y 0).val < j) :
    v.read (Elt F) (v.writes (Elt F) f (rowPieces j hj val L n hn)) y = v.read (Elt F) (v.writes (Elt F) f L) y := by
  induction n with
  | zero => rfl
  | succ n ih =>
    unfold rowPieces rowPiece
    rw [View.read_writes_cons_unit_of_not_mem v f (inb_row j n hj hn) _ _ y rfl (0 : Fin 4) (Or.inl hy)]
    exact ih _

/-- The rows of counts a point leaves. -/
theorem read_cnt (cnt ces : ℕ → FVec F S8x128 .f32) (L : List (View.Piece (Elt F) S2x10x8x128 .f32)) (k : ℕ) (hk : k < 9)
    (r : Fin 8) (l : Fin 128) :
    v.read (Elt F) (v.writes (Elt F) f (pointPieces cnt ces L)) (ix4 0 ⟨k, by omega⟩ r l) = cnt k (ix2 r l) := by
  unfold pointPieces
  rw [read_rowPieces_other v f 1 (by decide) ces _ 10 (by decide) (ix4 0 ⟨k, by omega⟩ r l) (show 0 < 1 by decide)]
  exact read_rowPieces v f 0 (by decide) cnt L 9 (by decide) k hk r l

/-- The rows of cross entropies a point leaves. -/
theorem read_ces (cnt ces : ℕ → FVec F S8x128 .f32) (L : List (View.Piece (Elt F) S2x10x8x128 .f32)) (k : ℕ) (hk : k < 10)
    (r : Fin 8) (l : Fin 128) :
    v.read (Elt F) (v.writes (Elt F) f (pointPieces cnt ces L)) (ix4 1 ⟨k, hk⟩ r l) = ces k (ix2 r l) :=
  read_rowPieces v f 1 (by decide) ces _ 10 (by decide) k hk r l

variable (a6 : Memref sig .tc .vmem S2x10x8x128 .f32) (h6 : a6.IsWhole)

/-- A row loaded at the start of a point. -/
theorem rowAt_apply (xs : Vec F S2x10x8x128 .f32) (j k : ℕ) (hj : j < 2) (hk : k < 10) (r : Fin 8) (l : Fin 128) :
    rowAt a6 h6 xs j k hj hk (ix2 r l) = xs (ix4 ⟨j, hj⟩ ⟨k, hk⟩ r l) := by
  unfold rowAt
  rw [castRow_apply, View.readAt_eq_ld, h6.read_unread, View.ld_apply]
  congr 1
  funext d
  apply Fin.ext
  rw [Rect.idx_unit_val]
  match d with
  | ⟨0, _⟩ => rfl
  | ⟨1, _⟩ => rfl
  | ⟨2, _⟩ => exact Nat.zero_add _
  | ⟨3, _⟩ => exact Nat.zero_add _

end

/-- A row loaded at the start of the first point is zero. -/
theorem rowZero_apply (a6 : Memref sig .tc .vmem S2x10x8x128 .f32) (j k : ℕ) (hj : j < 2) (hk : k < 10) (r : Fin 8) (l : Fin 128) :
    rowZero (F := Ideal) a6 j k hj hk (ix2 r l) = 0 := by
  unfold rowZero
  rw [castRow_apply]
  show a6.view.readAt (Elt Ideal) _ (a6.view.writes (Elt Ideal) a6.view.junk [zeroPiece]) _ = 0
  rw [View.readAt_apply]
  unfold zeroPiece
  rw [View.read_writes_full]
  pointwise [k0_pay22]

/-- The sum of all entries. -/
theorem total_apply (v : FVec Ideal S8x128 .f32) : total v = ∑ r : Fin 8, ∑ l : Fin 128, v (ix2 r l) := by
  unfold total
  pointwise []

/-- The pixel at row `r` and column `w` of chunk `n` of half `h` at grid point `t`. -/
def pix (t : ℕ) (h : Fin 2) (n : Fin 32) (r : Fin 8) (w : Fin 256) : Ghm.Px :=
  (⟨t / 2 % 4, by omega⟩, ⟨256 * (t % 2) + 128 * h.val + 8 * (n.val / 2) + r.val, by omega⟩,
    ⟨256 * (n.val % 2) + w.val, by omega⟩)

/-- What grid point `t` adds to lane `(r, l)` of the running sum of `g` over pixels. -/
def lane (g : Ghm.Px → ℝ) (t : ℕ) (r : Fin 8) (l : Fin 128) : ℝ :=
  (∑ n : Fin 32, (g (pix t 0 n r ⟨l.val, by omega⟩) + g (pix t 0 n r ⟨128 + l.val, by omega⟩)))
    + ∑ n : Fin 32, (g (pix t 1 n r ⟨l.val, by omega⟩) + g (pix t 1 n r ⟨128 + l.val, by omega⟩))

/-- A chunk's left half plus its right half. -/
theorem halves_apply (v : FVec Ideal S8x256 .f32) (r : Fin 8) (l : Fin 128) :
    halves v (ix2 r l) = v (ix2 r ⟨l.val, by omega⟩) + v (ix2 r ⟨128 + l.val, by omega⟩) := by
  pointwise [halves]

/-- A running sum of chunks, when the chunks are real there. -/
theorem addChunks_apply (v : ℕ → FVec Ideal S8x256 .f32) (s : FVec Ideal S8x128 .f32) (r : Fin 8) (l : Fin 128)
    (S : ℝ) (hs : s (ix2 r l) = (S : EReal)) (g : ℕ → Fin 256 → ℝ) (n : ℕ)
    (hv : ∀ i, i < n → ∀ w, v i (ix2 r w) = ((g i w : ℝ) : EReal)) :
    addChunks v s n (ix2 r l)
      = ((S + ∑ i ∈ Finset.range n, (g i ⟨l.val, by omega⟩ + g i ⟨128 + l.val, by omega⟩) : ℝ) : EReal) := by
  induction n with
  | zero => simpa [addChunks] using hs
  | succ n ih =>
    show addf (addChunks v s n) (halves (v n)) (ix2 r l) = _
    have e : addf (addChunks v s n) (halves (v n)) (ix2 r l) = addChunks v s n (ix2 r l) + halves (v n) (ix2 r l) := by
      pointwise []
    rw [e, ih (fun i hi => hv i (by omega)), halves_apply, hv n (by omega), hv n (by omega), Finset.sum_range_succ,
      ← EReal.coe_add, ← EReal.coe_add, add_assoc]

section
variable (m : (ℓ : Loc nD τ sig) → Buf (Elt Ideal) ℓ) (c : Dev nD) (X : Ghm.Scores) (T : Ghm.Classes)

/-- The kernel's arguments are the real scores `X` and the classes `T`. -/
structure Holds : Prop where
  scores : ∀ (b : Fin 4) (k : Fin 21) (y w : Fin 512), m (c.tc.loc main_arg0) (ix4 b k y w) = ((X b k y w : ℝ) : EReal)
  classes : ∀ (b : Fin 4) (y w : Fin 512), m (c.tc.loc main_arg1) (ix3 b y w) = BitVec.ofNat 32 (T (b, y, w)).val

/-- A chunk function that is, position by position, a function `g` of the scores and the class there. -/
def Reads (f : ChunkScores Ideal → IVec S8x256 32 → FVec Ideal S8x256 .f32) (g : (Fin 21 → ℝ) → Fin 21 → ℝ) : Prop :=
  ∀ (x : ChunkScores Ideal) (t : IVec S8x256 32) (j : S8x256.Idx) (X : Fin 21 → ℝ) (T : Fin 21),
    (∀ k, x k j = ((X k : ℝ) : EReal)) → t j = BitVec.ofNat 32 T.val → f x t j = ((g X T : ℝ) : EReal)

variable {m c X T}

/-- One grid point's addition to a row, lane by lane. -/
theorem addPoint_apply (H : Holds m c X T) (f : ChunkScores Ideal → IVec S8x256 32 → FVec Ideal S8x256 .f32)
    (g : (Fin 21 → ℝ) → Fin 21 → ℝ) (hf : Reads f g) (t : Fin cfg0.N)
    (a2 : Memref sig .tc .vmem S1x21x128x512 .f32) (h2 : a2.IsWhole)
    (a3 : Memref sig .tc .vmem S1x21x128x512 .f32) (h3 : a3.IsWhole)
    (a4 : Memref sig .tc .vmem S1x256x512 .i32) (h4 : a4.IsWhole) (s : FVec Ideal S8x128 .f32) (r : Fin 8) (l : Fin 128)
    (S : ℝ) (hs : s (ix2 r l) = (S : EReal)) :
    addPoint a2 h2 a3 h3 a4 h4 (iblk m c 0 t) (iblk m c 1 t) (iblk m c 2 t) f s (ix2 r l)
      = ((S + lane (fun p => g (Ghm.px X p) (T p)) t.val r l : ℝ) : EReal) := by
  have ht := t_lt t
  unfold addPoint lane
  rw [addChunks_apply _ _ r l _ (addChunks_apply _ s r l S hs
      (fun n w => if hn : n < 32 then (fun p => g (Ghm.px X p) (T p)) (pix t.val 0 ⟨n, hn⟩ r w) else 0) 32 fun n hn w => ?_)
      (fun n w => if hn : n < 32 then (fun p => g (Ghm.px X p) (T p)) (pix t.val 1 ⟨n, hn⟩ r w) else 0) 32 fun n hn w => ?_]
  · rw [add_assoc, Finset.sum_range, Finset.sum_range]
    simp only [Fin.is_lt, dif_pos, Fin.eta]
  · rw [dif_pos hn]
    have e : pix t.val 0 ⟨n, hn⟩ r w = (⟨t.val / 2, by omega⟩, ⟨256 * (t.val % 2) + (8 * (n / 2) + r.val), by omega⟩,
        ⟨256 * (n % 2) + w.val, by omega⟩) :=
      Prod.ext (Fin.ext (show t.val / 2 % 4 = t.val / 2 by omega)) (Prod.ext
        (Fin.ext (show 256 * (t.val % 2) + 128 * 0 + 8 * (n / 2) + r.val = 256 * (t.val % 2) + (8 * (n / 2) + r.val) by omega)) rfl)
    refine hf _ _ _ _ _ (fun k => ?_) ?_
    · rw [scoresAt_apply _ _ _ n hn, block0_apply, H.scores, e]
      rfl
    · rw [classesAt_apply _ _ _ _ n hn, block2_apply, H.classes]
      refine congrArg (fun p => BitVec.ofNat 32 (T p).val) (e.trans ?_).symm
      exact Prod.ext rfl (Prod.ext (Fin.ext (show 256 * (t.val % 2) + (8 * (n / 2) + r.val)
        = 256 * (t.val % 2) + (128 * 0 + 8 * (n / 2) + r.val) by omega)) rfl)
  · rw [dif_pos hn]
    have e : pix t.val 1 ⟨n, hn⟩ r w = (⟨t.val / 2, by omega⟩, ⟨256 * (t.val % 2) + 128 + (8 * (n / 2) + r.val), by omega⟩,
        ⟨256 * (n % 2) + w.val, by omega⟩) :=
      Prod.ext (Fin.ext (show t.val / 2 % 4 = t.val / 2 by omega)) (Prod.ext
        (Fin.ext (show 256 * (t.val % 2) + 128 * 1 + 8 * (n / 2) + r.val = 256 * (t.val % 2) + 128 + (8 * (n / 2) + r.val) by omega)) rfl)
    refine hf _ _ _ _ _ (fun k => ?_) ?_
    · rw [scoresAt_apply _ _ _ n hn, block1_apply, H.scores, e]
      rfl
    · rw [classesAt_apply _ _ _ _ n hn, block2_apply, H.classes]
      refine congrArg (fun p => BitVec.ofNat 32 (T p).val) (e.trans ?_).symm
      exact Prod.ext rfl (Prod.ext (Fin.ext (show 256 * (t.val % 2) + 128 + (8 * (n / 2) + r.val)
        = 256 * (t.val % 2) + (128 * 1 + 8 * (n / 2) + r.val) by omega)) rfl)

/-- What the counts of bin `k` gather from one pixel. -/
def cntOf (k : ℕ) (x : Fin 21 → ℝ) (c : Fin 21) : ℝ := if (Ghm.binOf (x c)).val = k then 1 else 0

/-- What row `k` of the cross entropies gathers from one pixel: row nine gathers from every pixel. -/
def cesOf (k : ℕ) (x : Fin 21 → ℝ) (c : Fin 21) : ℝ := if k = 9 ∨ (Ghm.binOf (x c)).val = k then Ghm.ceOf x c else 0

theorem reads_cnt (k : ℕ) (hk : k < 9) : Reads (chunkCnt (BitVec.ofNat 32 k)) (cntOf k) := fun x t j X T hx ht => by
  rw [chunkCnt_at x t j X T k (by omega) hx ht]
  simp only [cntOf, Fin.ext_iff]

theorem reads_ces (k : ℕ) (hk : k < 10) : Reads (cesFn k) (cesOf k) := fun x t j X T hx ht => by
  by_cases h : k = 9
  · subst h
    rw [show cesFn (F := Ideal) 9 = chunkCe from rfl, chunkCe_at x t j X T hx ht]
    simp [cesOf]
  · obtain ⟨d, hd⟩ : ∃ d, 9 - k = d + 1 := ⟨8 - k, by omega⟩
    rw [show cesFn (F := Ideal) k = chunkCes (BitVec.ofNat 32 k) by unfold cesFn; rw [hd], chunkCes_at x t j X T k (by omega) hx ht]
    simp only [cesOf, Fin.ext_iff, h, false_or]

variable (X T)

/-- Lane `(r, l)` of the running sum of `g` over the pixels of the first `n` grid points. -/
def upTo (g : (Fin 21 → ℝ) → Fin 21 → ℝ) (n : ℕ) (r : Fin 8) (l : Fin 128) : ℝ :=
  ∑ t ∈ Finset.range n, lane (fun p => g (Ghm.px X p) (T p)) t r l

variable {X T}

/-- What a point's sums are when the sums before it are those of the first `t` points. -/
theorem newCnt_apply (H : Holds m c X T) (t : Fin cfg0.N)
    (a2 : Memref sig .tc .vmem S1x21x128x512 .f32) (h2 : a2.IsWhole)
    (a3 : Memref sig .tc .vmem S1x21x128x512 .f32) (h3 : a3.IsWhole)
    (a4 : Memref sig .tc .vmem S1x256x512 .i32) (h4 : a4.IsWhole)
    (s : (j k : ℕ) → j < 2 → k < 10 → FVec Ideal S8x128 .f32) (k : ℕ) (hk : k < 9) (r : Fin 8) (l : Fin 128)
    (hs : s 0 k (by decide) (by omega) (ix2 r l) = ((upTo X T (cntOf k) t.val r l : ℝ) : EReal)) :
    newCnt a2 h2 a3 h3 a4 h4 (iblk m c 0 t) (iblk m c 1 t) (iblk m c 2 t) s k (ix2 r l)
      = ((upTo X T (cntOf k) (t.val + 1) r l : ℝ) : EReal) := by
  have e : ∀ k' (hk' : k' < 10), k' = k → s 0 k' (by decide) hk' (ix2 r l) = ((upTo X T (cntOf k) t.val r l : ℝ) : EReal) := by
    rintro k' hk' rfl
    exact hs
  unfold newCnt
  rw [addPoint_apply H _ _ (reads_cnt k hk) t a2 h2 a3 h3 a4 h4 _ r l _ (e _ _ (by omega))]
  unfold upTo
  rw [Finset.sum_range_succ]

theorem newCes_apply (H : Holds m c X T) (t : Fin cfg0.N)
    (a2 : Memref sig .tc .vmem S1x21x128x512 .f32) (h2 : a2.IsWhole)
    (a3 : Memref sig .tc .vmem S1x21x128x512 .f32) (h3 : a3.IsWhole)
    (a4 : Memref sig .tc .vmem S1x256x512 .i32) (h4 : a4.IsWhole)
    (s : (j k : ℕ) → j < 2 → k < 10 → FVec Ideal S8x128 .f32) (k : ℕ) (hk : k < 10) (r : Fin 8) (l : Fin 128)
    (hs : s 1 k (by decide) hk (ix2 r l) = ((upTo X T (cesOf k) t.val r l : ℝ) : EReal)) :
    newCes a2 h2 a3 h3 a4 h4 (iblk m c 0 t) (iblk m c 1 t) (iblk m c 2 t) s k (ix2 r l)
      = ((upTo X T (cesOf k) (t.val + 1) r l : ℝ) : EReal) := by
  have e : ∀ k' (hk' : k' < 10), k' = k → s 1 k' (by decide) hk' (ix2 r l) = ((upTo X T (cesOf k) t.val r l : ℝ) : EReal) := by
    rintro k' hk' rfl
    exact hs
  unfold newCes
  rw [addPoint_apply H _ _ (reads_ces k hk) t a2 h2 a3 h3 a4 h4 _ r l _ (e _ _ (by omega))]
  unfold upTo
  rw [Finset.sum_range_succ]

/-- The rows after each point but the last. -/
theorem rows_after (H : Holds m c X T) (n : ℕ) (hn : n < cfg0.N) (h7 : n < 7) (r : Fin 8) (l : Fin 128) :
    (∀ k (hk : k < 9), (outsAt0 m c n hn).2 (ix4 0 ⟨k, by omega⟩ r l) = ((upTo X T (cntOf k) (n + 1) r l : ℝ) : EReal))
    ∧ ∀ k (hk : k < 10), (outsAt0 m c n hn).2 (ix4 1 ⟨k, hk⟩ r l) = ((upTo X T (cesOf k) (n + 1) r l : ℝ) : EReal) := by
  induction n with
  | zero =>
    rw [outsAt0_A m c ⟨0, hn⟩ rfl (show ¬0 % 8 = 7 by decide)]
    dsimp only
    unfold sout0_A_0
    rw [pieces_A]
    constructor
    · intro k hk
      rw [read_cnt _ _ _ _ _ k hk]
      exact newCnt_apply H ⟨0, hn⟩ _ _ _ _ _ _ _ k hk r l ((rowZero_apply _ _ _ _ _ r l).trans (by simp [upTo]))
    · intro k hk
      rw [read_ces _ _ _ _ _ k hk]
      exact newCes_apply H ⟨0, hn⟩ _ _ _ _ _ _ _ k hk r l ((rowZero_apply _ _ _ _ _ r l).trans (by simp [upTo]))
  | succ n ih =>
    have ih := ih (by omega) (by omega)
    rw [outsAt0_B m c ⟨n + 1, hn⟩ (show ¬(n + 1) % 8 = 0 by omega) (show ¬(n + 1) % 8 = 7 by omega)]
    dsimp only
    unfold sout0_B_0
    rw [pieces_B]
    constructor
    · intro k hk
      rw [read_cnt _ _ _ _ _ k hk]
      exact newCnt_apply H ⟨n + 1, hn⟩ _ _ _ _ _ _ _ k hk r l ((rowAt_apply _ _ _ _ _ _ _ r l).trans (ih.1 k hk))
    · intro k hk
      rw [read_ces _ _ _ _ _ k hk]
      exact newCes_apply H ⟨n + 1, hn⟩ _ _ _ _ _ _ _ k hk r l ((rowAt_apply _ _ _ _ _ _ _ r l).trans (ih.2 k hk))

end

end Cert.KernelIdeal.Ghm
-- ==== Proof.Result.lean ====
/-
  The kernel's result over the extended reals: the loss of the plain mathematics.
-/
module

public import proofs.«01_k».proof.Proof.Rows

@[expose] public section

noncomputable section

namespace Cert.KernelIdeal.Ghm

open Cert.KernelIdeal Cert.KernelIdeal.Gen Idealize.ShloMosaic Idealize.ShloMosaic.TcCoe

/-- A pixel is a lane, a grid point, a half, a chunk, and one of the two halves of the chunk. -/
def pixels : (Fin 8 × Fin 128 × Fin 8 × Fin 2 × Fin 32 × Fin 2) ≃ Ghm.Px where
  toFun q := pix q.2.2.1.val q.2.2.2.1 q.2.2.2.2.1 q.1 ⟨128 * q.2.2.2.2.2.val + q.2.1.val, by omega⟩
  invFun p := (⟨p.2.1.val % 8, by omega⟩, ⟨p.2.2.val % 128, by omega⟩, ⟨2 * p.1.val + p.2.1.val / 256, by omega⟩,
    ⟨p.2.1.val / 128 % 2, by omega⟩, ⟨2 * (p.2.1.val / 8 % 16) + p.2.2.val / 256, by omega⟩, ⟨p.2.2.val / 128 % 2, by omega⟩)
  left_inv := by
    rintro ⟨r, l, t, h, n, s⟩
    simp only [pix, Prod.mk.injEq, Fin.ext_iff]
    omega
  right_inv := by
    rintro ⟨b, y, w⟩
    simp only [pix, Prod.mk.injEq, Fin.ext_iff]
    omega

/-- The lanes of all grid points together are all pixels. -/
theorem sum_lanes (g : Ghm.Px → ℝ) :
    ∑ r : Fin 8, ∑ l : Fin 128, ∑ t ∈ Finset.range 8, lane g t r l = ∑ p, g p := by
  rw [← Equiv.sum_comp pixels g]
  simp only [Fintype.sum_prod_type]
  refine Finset.sum_congr rfl fun r _ => Finset.sum_congr rfl fun l _ => ?_
  rw [Finset.sum_range]
  refine Finset.sum_congr rfl fun t _ => ?_
  rw [Fin.sum_univ_two]
  unfold lane
  congr 1
  all_goals
    refine Finset.sum_congr rfl fun n _ => ?_
    rw [Fin.sum_univ_two]
    congr 2
    show pix _ _ _ _ _ = pix _ _ _ _ _
    congr 1
    exact Fin.ext (by show l.val = 128 * 0 + l.val; omega)

/-- The sum of a row after the last point. -/
theorem total_row (X : Ghm.Scores) (T : Ghm.Classes) (g : (Fin 21 → ℝ) → Fin 21 → ℝ) (v : FVec Ideal S8x128 .f32)
    (hv : ∀ r l, v (ix2 r l) = ((upTo X T g 8 r l : ℝ) : EReal)) :
    total v = ((∑ p, g (Ghm.px X p) (T p) : ℝ) : EReal) := by
  rw [total_apply, ← sum_lanes fun p => g (Ghm.px X p) (T p), Ghm.coe_sum]
  refine Finset.sum_congr rfl fun r _ => ?_
  rw [Ghm.coe_sum]
  exact Finset.sum_congr rfl fun l _ => hv r l

/-- A running difference of reals. -/
theorem less_coe (s : ℝ) (v : ℕ → EReal) (a : ℕ → ℝ) (n : ℕ) (h : ∀ k, k < n → v k = ((a k : ℝ) : EReal)) :
    less (F := Ideal) ((s : ℝ) : EReal) v n = ((s - ∑ k ∈ Finset.range n, a k : ℝ) : EReal) := by
  induction n with
  | zero => simp [less]
  | succ n ih =>
    show less (F := Ideal) ((s : ℝ) : EReal) v n - v n = _
    rw [ih fun k hk => h k (by omega), h n (by omega), ← EReal.coe_sub, Finset.sum_range_succ, sub_sub]

/-- A running sum of reals. -/
theorem more_coe (s : ℝ) (v : ℕ → EReal) (a : ℕ → ℝ) (n : ℕ) (h : ∀ k, k < n → v k = ((a k : ℝ) : EReal)) :
    more (F := Ideal) ((s : ℝ) : EReal) v n = ((s + ∑ k ∈ Finset.range n, a k : ℝ) : EReal) := by
  induction n with
  | zero => simp [more]
  | succ n ih =>
    show more (F := Ideal) ((s : ℝ) : EReal) v n + v n = _
    rw [ih fun k hk => h k (by omega), h n (by omega), ← EReal.coe_add, Finset.sum_range_succ, add_assoc]

/-- A bin's share, when its weighted count is positive. -/
theorem share_coe (e n : ℝ) (h : 0 < Ghm.scale * n + Ghm.eps) :
    share (F := Ideal) ((e : ℝ) : EReal) ((n : ℝ) : EReal) = ((e / (Ghm.scale * n + Ghm.eps) : ℝ) : EReal) := by
  show Ideal.div _ (Ideal.ofBits .f32 0x3DCCCCCD#32 * _ + Ideal.ofBits .f32 0x358637BD#32) = _
  rw [Ghm.word_scale, Ghm.word_eps, ← EReal.coe_mul, ← EReal.coe_add, Ghm.div_coe _ _ h.ne']

theorem sum_cntOf (X : Ghm.Scores) (T : Ghm.Classes) (k : Fin 9) :
    ∑ p, cntOf k.val (Ghm.px X p) (T p) = Ghm.cnt X T k.castSucc :=
  Finset.sum_congr rfl fun p _ => by simp only [cntOf, Ghm.bin, Ghm.pt, Fin.ext_iff, Fin.val_castSucc]

theorem sum_cesOf (X : Ghm.Scores) (T : Ghm.Classes) (k : Fin 9) :
    ∑ p, cesOf k.val (Ghm.px X p) (T p) = Ghm.ces X T k.castSucc :=
  Finset.sum_congr rfl fun p _ => by
    have h : k.val ≠ 9 := by omega
    simp only [cesOf, Ghm.bin, Ghm.pt, Ghm.ce, Fin.ext_iff, Fin.val_castSucc, h, false_or]

theorem sum_cesOf_nine (X : Ghm.Scores) (T : Ghm.Classes) :
    ∑ p, cesOf 9 (Ghm.px X p) (T p) = ∑ p, Ghm.ce X T p :=
  Finset.sum_congr rfl fun p _ => by simp only [cesOf, true_or, if_true, Ghm.ce]

/-- The final scalar, from the rows after the last point. -/
theorem finish_eq (X : Ghm.Scores) (T : Ghm.Classes) (cnt ces : ℕ → FVec Ideal S8x128 .f32)
    (hc : ∀ k, k < 9 → ∀ r l, cnt k (ix2 r l) = ((upTo X T (cntOf k) 8 r l : ℝ) : EReal))
    (he : ∀ k, k < 10 → ∀ r l, ces k (ix2 r l) = ((upTo X T (cesOf k) 8 r l : ℝ) : EReal)) :
    finish cnt ces = ((Ghm.loss X T : ℝ) : EReal) := by
  have tc : ∀ k, k < 9 → total (cnt k) = ((∑ p, cntOf k (Ghm.px X p) (T p) : ℝ) : EReal) := fun k hk => total_row X T _ _ (hc k hk)
  have te : ∀ k, k < 10 → total (ces k) = ((∑ p, cesOf k (Ghm.px X p) (T p) : ℝ) : EReal) := fun k hk => total_row X T _ _ (he k hk)
  have h0 : Ideal.ofBits .f32 0x00000000#32 = ((0 : ℝ) : EReal) := Ideal.ofBits_zero_f32
  have ec : ∑ k ∈ Finset.range 9, ∑ p, cntOf k (Ghm.px X p) (T p) = ∑ k : Fin 9, Ghm.cnt X T k.castSucc := by
    rw [Finset.sum_range]
    exact Finset.sum_congr rfl fun k _ => sum_cntOf X T k
  have ee : ∑ k ∈ Finset.range 9, ∑ p, cesOf k (Ghm.px X p) (T p) = ∑ k : Fin 9, Ghm.ces X T k.castSucc := by
    rw [Finset.sum_range]
    exact Finset.sum_congr rfl fun k _ => sum_cesOf X T k
  have lc : less (F := Ideal) (Ideal.ofBits .f32 0x49800000#32) (fun k => total (cnt k)) 9 = ((Ghm.cnt X T 9 : ℝ) : EReal) := by
    rw [Ghm.word_pixels, less_coe _ _ _ 9 tc, ec, Ghm.cnt_last]
  have le : less (F := Ideal) (total (ces 9)) (fun k => total (ces k)) 9 = ((Ghm.ces X T 9 : ℝ) : EReal) := by
    rw [te 9 (by decide), less_coe _ _ _ 9 fun k hk => te k (by omega), ee, sum_cesOf_nine, Ghm.ces_last]
  have sh : ∀ k, k < 9 → share (F := Ideal) (total (ces k)) (total (cnt k))
      = ((if h : k < 9 then Ghm.ces X T (⟨k, h⟩ : Fin 9).castSucc / Ghm.den X T (⟨k, h⟩ : Fin 9).castSucc else 0 : ℝ) : EReal) := by
    intro k hk
    rw [tc k hk, te k (by omega), dif_pos hk, sum_cntOf X T ⟨k, hk⟩, sum_cesOf X T ⟨k, hk⟩, share_coe _ _ (Ghm.den_pos X T _)]
    rfl
  show Ideal.div (more (F := Ideal) (Ideal.ofBits .f32 0x00000000#32) _ 9 + share (F := Ideal) _ _) (Ideal.ofBits .f32 0x49800000#32) = _
  rw [show less (F := Ideal) (Scalar.ofBits .f32 0x49800000#32) (fun k => total (cnt k)) 9 = _ from lc, le, h0,
    more_coe 0 _ _ 9 sh, share_coe _ _ (Ghm.den_pos X T 9), ← EReal.coe_add, Ghm.word_pixels, Ghm.div_coe _ _ (by norm_num),
    Ghm.loss_eq_nine_one, zero_add, Finset.sum_range]
  simp only [Fin.is_lt, dif_pos, Fin.eta]
  rfl

section
variable {m : (ℓ : Loc nD τ sig) → Buf (Elt Ideal) ℓ} {c : Dev nD} {X : Ghm.Scores} {T : Ghm.Classes}

/-- What the last point stores into the result. -/
theorem last_point (H : Holds m c X T) (t : Fin cfg0.N) (h7 : t.val = 7) (y : S1x1.Idx) :
    (outsAt0 m c t.val t.isLt).1 y = ((Ghm.loss X T : ℝ) : EReal) := by
  rw [outsAt0_C m c t (by omega) (by omega)]
  dsimp only
  unfold out0_C_3
  rw [result_C, View.read_writes_full (s := S1x1)]
  have hN : cfg0.N = 8 := N_0
  have hb := rows_after H (t.val - 1) (by omega) (by omega)
  have e1 : t.val - 1 + 1 = t.val := by omega
  rw [e1] at hb
  have e8 (g : (Fin 21 → ℝ) → Fin 21 → ℝ) (r : Fin 8) (l : Fin 128) : upTo X T g 8 r l = upTo X T g (t.val + 1) r l := by rw [h7]
  refine finish_eq X T _ _ (fun k hk r l => ?_) (fun k hk r l => ?_)
  · rw [e8]
    exact newCnt_apply H t _ _ _ _ _ _ _ k hk r l ((rowAt_apply _ _ _ _ _ _ _ r l).trans ((hb r l).1 k hk))
  · rw [e8]
    exact newCes_apply H t _ _ _ _ _ _ _ k hk r l ((rowAt_apply _ _ _ _ _ _ _ r l).trans ((hb r l).2 k hk))

/-- The result array after the run. -/
theorem result_eq (H : Holds m c X T) : (dats m 0 c).arrAt 3 cfg0.N = fun _ => ((Ghm.loss X T : ℝ) : EReal) := by
  refine (dats m 0 c).arrAt_eq_of_covers 3 _ (by decide +kernel) fun t hf y => ?_
  blk_simp
  rw [after0_3]
  exact last_point H t (by have := (flush0_3 t).mp hf; have := t_lt t; omega) _

end

end Cert.KernelIdeal.Ghm
-- ==== Proof.RefIndex.lean ====
module

public import proofs.«01_k».proof.Proof.Gen.ReferenceIdeal.Read
public import proofs.«01_k».proof.Proof.Spec
public import Idealize.ShloMosaic.Lib.ValueIdx
public import Idealize.ShloMosaic.Lib.ReduceAll
public import Idealize.ShloMosaic.Lib.Routing.OpsOne
public import Idealize.ShloMosaic.Lib.Routing.OpsSearch

/-! The reference's operations that choose an element by an operand's value: its scatters and gathers. -/

@[expose] public section

noncomputable section

namespace Cert.ReferenceIdeal.Ghm

open Cert.ReferenceIdeal Cert.ReferenceIdeal.Gen Cert.ReferenceIdeal.Read Idealize.ShloMosaic Idealize.ShloMosaic.ValueIdx

/-- The one update of the edges lands at edge `k` exactly when the index word is `k`. -/
theorem edge_lands (idx : IVec S1 32) (h : idx (ix1 (0 : Fin 1)) = 10#32) (k : Fin 11) :
    scatter_S11_S1_S__n_0_0_0.resultIdx? ix0 idx = some (ix1 k) ↔ k = 10 :=
  Routing.lands_one _ rfl rfl idx 10 (by rw [h]; rfl) k

/-- Count update `i` lands at bin `k` exactly when its index word, read signed, is `k`. -/
theorem count_lands (idx : IVec S1048576x1 32) (i : Fin 1048576) (k : Fin 10) :
    scatter_S10_S1048576x1_S1048576_n_0_0_1.resultIdx? (ix1 i) idx = some (ix1 k)
      ↔ (idx (ix2 i (0 : Fin 1))).toInt = (k.val : Int) := by
  have hw : scatter_S10_S1048576x1_S1048576_n_0_0_1.window (ix1 i) 0 = 0 := rfl
  have hi : scatter_S10_S1048576x1_S1048576_n_0_0_1.siIdx (ix1 i) ⟨0, Nat.one_pos⟩ = ix2 i (0 : Fin 1) := by
    funext b
    match b with
    | ⟨0, _⟩ => rfl
    | ⟨1, _⟩ => rfl
  have hs : scatter_S10_S1048576x1_S1048576_n_0_0_1.start (ix1 i) idx 0 = (idx (ix2 i (0 : Fin 1))).toInt := by
    rw [← hi]
    rfl
  rw [Routing.resultIdx?_ix1, hs, hw]
  omega

/-- The class score picked at pixel `(b, y, w)`, where the index word there is a class number. -/
theorem pick_score {α : Type} (x : S4x21x512x512.Idx → α) (idx : IVec S4x1x512x512x1 32) (b : Fin 4) (y w : Fin 512) (c : Fin 21)
    (h : idx (ix5 b (0 : Fin 1) y w (0 : Fin 1)) = BitVec.ofNat 32 c.val) :
    Host.gather gather_S4x21x512x512_S4x1x512x512x1_S4x1x512x512_n_1_023_023_1_4_1111 x idx (ix4 b (0 : Fin 1) y w) = x (ix4 b c y w) := by
  unfold Host.gather
  have hi : gather_S4x21x512x512_S4x1x512x512x1_S4x1x512x512_n_1_023_023_1_4_1111.siIdx (ix4 b (0 : Fin 1) y w) ⟨0, Nat.one_pos⟩
      = ix5 b (0 : Fin 1) y w (0 : Fin 1) := by
    funext a
    match a with
    | ⟨0, _⟩ => rfl
    | ⟨1, _⟩ => rfl
    | ⟨2, _⟩ => rfl
    | ⟨3, _⟩ => rfl
    | ⟨4, _⟩ => rfl
  refine congrArg x (funext fun a => Fin.ext ?_)
  match a with
  | ⟨0, _⟩ => show 0 + b.val + 0 = b.val; omega
  | ⟨1, _⟩ =>
    show min (idx (gather_S4x21x512x512_S4x1x512x512x1_S4x1x512x512_n_1_023_023_1_4_1111.siIdx (ix4 b (0 : Fin 1) y w) ⟨0, Nat.one_pos⟩)).toInt.toNat 20 + 0 + 0 = c.val
    rw [hi, h, StableHlo.Predicate.toInt_ofNat_small _ (by omega), Int.toNat_natCast]
    omega
  | ⟨2, _⟩ => show 0 + y.val + 0 = y.val; omega
  | ⟨3, _⟩ => show 0 + w.val + 0 = w.val; omega

end Cert.ReferenceIdeal.Ghm
-- ==== Proof.RefBins.lean ====
module

public import proofs.«01_k».proof.Proof.RefIndex

/-! The reference's bins: its edges, the gradient of each pixel, and the bin index the edges give it. -/

@[expose] public section

noncomputable section

namespace Cert.ReferenceIdeal.Ghm

open Cert.ReferenceIdeal Cert.ReferenceIdeal.Gen Cert.ReferenceIdeal.Read Idealize.ShloMosaic Idealize.ShloMosaic.ValueIdx

theorem word_zero : Ideal.ofBits .f32 0x00000000#32 = ((0 : ℝ) : EReal) := Ideal.ofBits_zero_f32

theorem word_one : Ideal.ofBits .f32 0x3F800000#32 = ((1 : ℝ) : EReal) := by simpa using Ideal.ofBits_one_f32

/-! ## The edges -/

/-- Edge `k`: tenths, the last one raised by the small constant. -/
def edge (k : ℕ) : ℝ := if k < 10 then k / 10 else 1 + Ghm.eps

/-- The evenly spaced numbers before the last. -/
theorem spaced (k : Fin 10) : val_main_call0_v15 (F := Ideal) (ix1 k) = ((k.val / 10 : ℝ) : EReal) := by
  have e4 : val_main_call0_v4 (F := Ideal) (ix1 k) = ((k.val : ℝ) : EReal) := by
    show (((BitVec.ofNat 32 k.val).toInt : ℝ) : EReal) = _
    rw [StableHlo.Predicate.toInt_ofNat_small _ (by omega), Int.cast_natCast]
  have e6 : val_main_call0_v6 (F := Ideal) (ix1 k) = ((k.val / 10 : ℝ) : EReal) := by
    show Ideal.div (val_main_call0_v4 (F := Ideal) (ix1 k)) (Ideal.ofBits .f32 0x41200000#32) = _
    rw [e4, Ghm.word_ten, Ghm.div_coe _ _ (by norm_num)]
  show Ideal.ofBits .f32 0x00000000#32 * (Ideal.ofBits .f32 0x3F800000#32 - val_main_call0_v6 (F := Ideal) (ix1 k))
    + Ideal.ofBits .f32 0x3F800000#32 * val_main_call0_v6 (F := Ideal) (ix1 k) = _
  rw [e6, word_zero, word_one, ← EReal.coe_sub, ← EReal.coe_mul, ← EReal.coe_mul, ← EReal.coe_add]
  congr 1
  ring

/-- The edges, before the last is raised. -/
theorem unraised (k : Fin 11) : val_main_v0 (F := Ideal) (ix1 k) = ((k.val / 10 : ℝ) : EReal) := by
  unfold val_main_v0
  by_cases h : k.val < 10
  · rw [concatenate_pair_apply_left (s₁ := S10) (s₂ := S1) 0 _ _ _ (ix1 k) rfl (ix1 (⟨k.val, h⟩ : Fin 10)) (fun b => match b with | ⟨0, _⟩ => rfl)]
    exact spaced ⟨k.val, h⟩
  · have hk : k.val = 10 := by omega
    rw [concatenate_pair_apply_right (s₁ := S10) (s₂ := S1) 0 _ _ _ (ix1 k) rfl rfl (ix1 (0 : Fin 1)) (fun b hb => absurd (Subsingleton.elim (α := Fin 1) _ _) hb)
      (by show 0 + 10 = k.val; omega), hk]
    show Ideal.ofBits .f32 0x3F800000#32 = _
    rw [word_one]
    norm_num

/-- The edges. -/
theorem edges (k : Fin 11) : val_main_v2 (F := Ideal) (ix1 k) = ((edge k.val : ℝ) : EReal) := by
  have hl := edge_lands (val_main_v1 (F := Ideal)) rfl k
  unfold val_main_v2
  rw [Routing.scatter_at]
  have h1 : List.finRange S_.numel = [⟨0, by decide⟩] := rfl
  have h2 : S_.rowMajor.symm ⟨0, by decide⟩ = ix0 := Subsingleton.elim _ _
  rw [h1, List.foldl_cons, List.foldl_nil, h2, unraised]
  unfold edge
  by_cases h : k = 10
  · subst h
    rw [if_pos (hl.mpr rfl), if_neg (by decide)]
    show _ + Ideal.ofBits .f32 0x358637BD#32 = _
    rw [Ghm.word_eps, ← EReal.coe_add]
    congr 2
    norm_num
  · have hv : k.val ≠ 10 := fun e => h (Fin.ext e)
    rw [if_neg fun q => h (hl.mp q), if_pos (by omega)]

/-! ## From edges to bins -/

/-- How many of the first `m` naturals are below `n`. -/
theorem count_below (n m : ℕ) : Nat.count (fun q => q < n) m = min m n := by
  induction m with
  | zero => simp
  | succ m ih => rw [Nat.count_succ, ih]; split <;> omega

/-- The bin of a gradient, from the number of edges strictly below it. -/
theorem bin_of_count (r : ℝ) :
    min 9 (Nat.count (fun q => edge q < |r - 1|) 11 - 1) = (Ghm.binOf r).val := by
  have hg : 0 ≤ |r - 1| := abs_nonneg _
  show _ = (max 0 (min 9 (⌈|r - 1| * 10⌉ - 1))).toNat
  generalize |r - 1| = g at hg
  have hc : (⌈g * 10⌉ : ℤ) = (⌈g * 10⌉₊ : ℕ) := (Int.natCast_ceil_eq_ceil (by positivity)).symm
  have h10 : Nat.count (fun q => edge q < g) 10 = min 10 ⌈g * 10⌉₊ := by
    rw [← count_below, Nat.count_eq_card_filter_range, Nat.count_eq_card_filter_range]
    refine congrArg _ (Finset.filter_congr fun q hq => ?_)
    rw [Nat.lt_ceil, edge, if_pos (Finset.mem_range.mp hq), div_lt_iff₀ (by norm_num)]
  have hlast : edge 10 < g → 10 ≤ ⌈g * 10⌉₊ := by
    intro h
    unfold edge at h
    rw [if_neg (by decide)] at h
    have := Ghm.eps_pos
    have h9 : 9 < ⌈g * 10⌉₊ := Nat.lt_ceil.mpr (by push_cast; linarith)
    omega
  rw [Nat.count_succ, h10, hc]
  split
  · next h => have := hlast h; omega
  · omega

/-- Subtracting one and clamping to the ten bins, on the words of small numbers. -/
theorem clamp_count (n : Fin 12) :
    IntOp.minsi 9#32 (IntOp.maxsi 0#32 (BitVec.ofNat 32 n.val - 1#32)) = BitVec.ofNat 32 (min 9 (n.val - 1)) := by
  revert n; decide

/-- Clamping a bin from below, and adding ten to what is negative, leave it alone. -/
theorem bin_kept (b : Fin 10) :
    IntOp.maxsi 0#32 (BitVec.ofNat 32 b.val) = BitVec.ofNat 32 b.val
      ∧ Scalar.select (IntOp.cmpi .slt (BitVec.ofNat 32 b.val) 0#32) (BitVec.ofNat 32 b.val + 10#32) (BitVec.ofNat 32 b.val) = BitVec.ofNat 32 b.val := by
  revert b; decide

/-! ## Gradients and bin indices of the pixels -/

/-- The arguments hold these real scores and these classes. -/
structure Args (x0 : FVec Ideal S4x21x512x512 .f32) (x1 : IVec S4x512x512 32) (X : Ghm.Scores) (T : Ghm.Classes) : Prop where
  scores : ∀ b k y w, x0 (ix4 b k y w) = ((X b k y w : ℝ) : EReal)
  classes : ∀ b y w, x1 (ix3 b y w) = BitVec.ofNat 32 (T (b, y, w)).val

/-- The pixels in the order of the flattened arrays. -/
def flat : Fin 1048576 ≃ Ghm.Px where
  toFun j := (⟨j.val / 262144, by omega⟩, ⟨j.val / 512 % 512, by omega⟩, ⟨j.val % 512, by omega⟩)
  invFun p := ⟨(p.1.val * 512 + p.2.1.val) * 512 + p.2.2.val, by omega⟩
  left_inv j := Fin.ext (by show (j.val / 262144 * 512 + j.val / 512 % 512) * 512 + j.val % 512 = j.val; omega)
  right_inv p := Prod.ext (Fin.ext (by show ((p.1.val * 512 + p.2.1.val) * 512 + p.2.2.val) / 262144 = p.1.val; omega))
    (Prod.ext (Fin.ext (by show ((p.1.val * 512 + p.2.1.val) * 512 + p.2.2.val) / 512 % 512 = p.2.1.val; omega))
      (Fin.ext (by show ((p.1.val * 512 + p.2.1.val) * 512 + p.2.2.val) % 512 = p.2.2.val; omega)))

section
variable {x0 : FVec Ideal S4x21x512x512 .f32} {x1 : IVec S4x512x512 32} {X : Ghm.Scores} {T : Ghm.Classes}

/-- The one-hot row of a class. -/
theorem one_hot (H : Args x0 x1 X T) (b : Fin 4) (k : Fin 21) (y w : Fin 512) :
    val_main_v4 (F := Ideal) x1 (ix4 b k y w) = ((if k = T (b, y, w) then 1 else 0 : ℝ) : EReal) := by
  have e : val_main_v4 (F := Ideal) x1 (ix4 b k y w)
      = (((IntOp.cmpi .eq (x1 (ix3 b y w)) (BitVec.ofNat 32 k.val)).toNat : ℝ) : EReal) := by
    rw [val_main_v4_apply, val_main_v3_apply, val_main_call1_v4_apply, val_main_call1_v2_apply, val_main_call1_v0_apply,
      val_main_call1_v3_apply, val_main_call1_v1_apply]
    have hi : idx_main_call1_v0 (idx_main_call1_v2 (idx_main_v4 (ix4 b k y w))) = ix3 b y w := by
      funext a
      match a with
      | ⟨0, _⟩ => rfl
      | ⟨1, _⟩ => rfl
      | ⟨2, _⟩ => rfl
    rw [hi]
    rfl
  have hw : ∀ c d : Fin 21, (IntOp.cmpi .eq (BitVec.ofNat 32 c.val) (BitVec.ofNat 32 d.val)).toNat = if d = c then 1 else 0 := by decide
  rw [e, H.classes, hw]
  split <;> simp

/-- The score of the pixel's own class. -/
theorem own_score (H : Args x0 x1 X T) (b : Fin 4) (y w : Fin 512) :
    val_main_v6 (F := Ideal) x0 x1 (ix3 b y w) = ((Ghm.pt X T (b, y, w) : ℝ) : EReal) := by
  rw [val_main_v6_apply]
  have ht : ∀ k : Fin 21, val_main_v5 (F := Ideal) x0 x1 (idx_main_v6 (ix3 b y w) k)
      = ((if k = T (b, y, w) then X b k y w else 0 : ℝ) : EReal) := by
    intro k
    have hi : idx_main_v6 (ix3 b y w) k = ix4 b k y w := by
      funext a
      match a with
      | ⟨0, _⟩ => rfl
      | ⟨1, _⟩ => rfl
      | ⟨2, _⟩ => rfl
      | ⟨3, _⟩ => rfl
    rw [hi, val_main_v5_apply, one_hot H, H.scores, Ideal.mulf_def, ← EReal.coe_mul]
    split <;> simp
  simp only [ht]
  show Ideal.ofBits .f32 0x00000000#32 + _ = _
  rw [word_zero, ← Ghm.coe_sum, ← EReal.coe_add, Finset.sum_ite_eq' Finset.univ, if_pos (Finset.mem_univ _), zero_add]
  rfl

/-- The gradient of pixel `j`. -/
theorem gradient (H : Args x0 x1 X T) (j : Fin 1048576) :
    val_main_v10 (F := Ideal) x0 x1 (ix1 j) = ((|Ghm.pt X T (flat j) - 1| : ℝ) : EReal) := by
  have hi : idx_main_v10 (ix1 j) = ix3 (flat j).1 (flat j).2.1 (flat j).2.2 := by
    funext a
    match a with
    | ⟨0, _⟩ => rfl
    | ⟨1, _⟩ => rfl
    | ⟨2, _⟩ => rfl
  rw [val_main_v10_apply, hi, val_main_v9_apply, val_main_v8_apply, own_score H, val_main_v7_apply, val_main_cst_3_apply]
  show max (_ - Ideal.ofBits .f32 0x3F800000#32) (-(_ - Ideal.ofBits .f32 0x3F800000#32)) = _
  rw [word_one, ← EReal.coe_sub, Ghm.abs_coe]

/-- How many edges are strictly below the gradient of pixel `j`. -/
theorem edges_below (H : Args x0 x1 X T) (j : Fin 1048576) :
    val_main_v17 (F := Ideal) x0 x1 (ix1 j)
      = BitVec.ofNat 32 (Nat.count (fun q => edge q < |Ghm.pt X T (flat j) - 1|) 11) := by
  classical
  refine Routing.reduce_count (by norm_num) (val_main_v15 (F := Ideal) x0 x1) natLt_1_32 reducesTo_S1048576x11_S1048576_d1 h_S_ j _ fun q => ?_
  have h13 : val_main_v13 (F := Ideal) (ix2 j q) = ((edge q.val : ℝ) : EReal) := by
    rw [val_main_v13_apply, val_main_v11_apply, ← edges]
    exact congrArg _ (funext fun a => match a with | ⟨0, _⟩ => rfl)
  have h14 : val_main_v14 (F := Ideal) x0 x1 (ix2 j q) = ((|Ghm.pt X T (flat j) - 1| : ℝ) : EReal) := by
    rw [val_main_v14_apply, val_main_v12_apply, ← gradient H]
    exact congrArg _ (funext fun a => match a with | ⟨0, _⟩ => rfl)
  rw [val_main_v15_apply, h13, h14]
  show BitVec.ofBool (decide (((edge q.val : ℝ) : EReal) < _)) = 1#1 ↔ _
  by_cases h : edge q.val < |Ghm.pt X T (flat j) - 1| <;> simp [EReal.coe_lt_coe_iff, h]

/-- The bin index of pixel `j`. -/
theorem index_at (H : Args x0 x1 X T) (j : Fin 1048576) :
    val_main_v20 (F := Ideal) x0 x1 (ix1 j) = BitVec.ofNat 32 (Ghm.bin X T (flat j)).val := by
  have e : val_main_v20 (F := Ideal) x0 x1 (ix1 j)
      = IntOp.minsi 9#32 (IntOp.maxsi 0#32 (val_main_v17 (F := Ideal) x0 x1 (ix1 j) - 1#32)) := rfl
  have hl : Nat.count (fun q => edge q < |Ghm.pt X T (flat j) - 1|) 11 < 12 := Nat.lt_succ_of_le (Nat.count_le _)
  rw [e, edges_below H, Ghm.bin, ← bin_of_count]
  exact clamp_count ⟨_, hl⟩

end

end Cert.ReferenceIdeal.Ghm
-- ==== Proof.Reference.lean ====
module

public import proofs.«01_k».proof.Proof.RefBins
public import Mathlib.Data.Finset.Fold

/-! The reference's weights, its cross entropy and its loss. -/

@[expose] public section

noncomputable section

namespace Cert.ReferenceIdeal.Ghm

open Cert.ReferenceIdeal Cert.ReferenceIdeal.Gen Cert.ReferenceIdeal.Read Idealize.ShloMosaic Idealize.ShloMosaic.ValueIdx

section
variable {x0 : FVec Ideal S4x21x512x512 .f32} {x1 : IVec S4x512x512 32} {X : Ghm.Scores} {T : Ghm.Classes}

/-! ## The weights -/

/-- The index word at which pixel `j` is counted. -/
theorem counted_at (H : Args x0 x1 X T) (j : Fin 1048576) :
    val_main_v28 (F := Ideal) x0 x1 (ix2 j (0 : Fin 1)) = BitVec.ofNat 32 (Ghm.bin X T (flat j)).val := by
  have hi : idx_main_v28 (ix2 j (0 : Fin 1)) = ix1 j := funext fun a => match a with | ⟨0, _⟩ => rfl
  obtain ⟨e1, e2⟩ := bin_kept (Ghm.bin X T (flat j))
  have e22 : val_main_v22 (F := Ideal) x0 x1 (ix1 j) = BitVec.ofNat 32 (Ghm.bin X T (flat j)).val := by
    rw [val_main_v22_apply, index_at H]
    exact e1
  rw [val_main_v28_apply, hi, val_main_v27_apply, val_main_v24_apply, val_main_v26_apply, e22]
  exact e2

/-- The index word at which the weight of pixel `j` is read. -/
theorem read_at (H : Args x0 x1 X T) (j : Fin 1048576) :
    val_main_v43 (F := Ideal) x0 x1 (ix2 j (0 : Fin 1)) = BitVec.ofNat 32 (Ghm.bin X T (flat j)).val := by
  have hi : idx_main_v43 (ix2 j (0 : Fin 1)) = ix1 j := funext fun a => match a with | ⟨0, _⟩ => rfl
  rw [val_main_v43_apply, hi, val_main_v42_apply, val_main_v39_apply, val_main_v41_apply, index_at H]
  exact (bin_kept (Ghm.bin X T (flat j))).2

/-- The words of the pixel counts. -/
theorem count_word (H : Args x0 x1 X T) (k : Fin 10) :
    val_main_v30 (F := Ideal) x0 x1 (ix1 k) = BitVec.ofNat 32 (∑ p, if Ghm.bin X T p = k then 1 else 0) := by
  have hl : ∀ n : Fin S1048576.numel, scatter_S10_S1048576x1_S1048576_n_0_0_1.resultIdx? (S1048576.rowMajor.symm n) (val_main_v28 (F := Ideal) x0 x1) = some (ix1 k)
      ↔ Ghm.bin X T (flat (n.cast (Routing.numel1 1048576))) = k := by
    intro n
    have hb := (Ghm.bin X T (flat (n.cast (Routing.numel1 1048576)))).isLt
    rw [show S1048576.rowMajor.symm n = ix1 (n.cast (Routing.numel1 1048576)) from Routing.symm1 n, count_lands, counted_at H,
      StableHlo.Predicate.toInt_ofNat_small _ (by omega), Fin.ext_iff]
    exact Int.natCast_inj
  have hf : ∀ (a : BitVec 32) (n : Fin S1048576.numel), (if scatter_S10_S1048576x1_S1048576_n_0_0_1.resultIdx? (S1048576.rowMajor.symm n) (val_main_v28 (F := Ideal) x0 x1) = some (ix1 k)
        then IntOp.addi a (val_main_v29 (F := Ideal) (S1048576.rowMajor.symm n)) else a)
      = IntOp.addi a (BitVec.ofNat 32 (if Ghm.bin X T (flat (n.cast (Routing.numel1 1048576))) = k then 1 else 0)) := by
    intro a n
    by_cases h : Ghm.bin X T (flat (n.cast (Routing.numel1 1048576))) = k
    · rw [if_pos ((hl n).mpr h), if_pos h]
      rfl
    · rw [if_neg fun q => h ((hl n).mp q), if_neg h]
      exact (BitVec.add_zero a).symm
  unfold val_main_v30
  rw [Routing.scatter_at]
  simp only [hf]
  refine (Routing.foldl_addi_ofNat (List.finRange S1048576.numel)
    (fun n => BitVec.ofNat 32 (if Ghm.bin X T (flat (n.cast (Routing.numel1 1048576))) = k then 1 else 0))
    (fun n => if Ghm.bin X T (flat (n.cast (Routing.numel1 1048576))) = k then 1 else 0) (fun _ _ => rfl)
    (val_main_v21 (F := Ideal) (ix1 k)) 0 rfl).trans ?_
  rw [← Fin.sum_univ_def, zero_add]
  exact congrArg _ (((finCongr (Routing.numel1 1048576)).trans flat).sum_comp fun p => if Ghm.bin X T p = k then 1 else 0)

/-- The running count of bin `k`. -/
theorem running_count (H : Args x0 x1 X T) (k : Fin 10) :
    val_main_v37 (F := Ideal) x0 x1 (ix1 k) = ((Ghm.scale * Ghm.cnt X T k : ℝ) : EReal) := by
  have hle : (∑ p : Ghm.Px, if Ghm.bin X T p = k then 1 else 0) ≤ 1048576 := by
    refine (Finset.sum_le_card_nsmul Finset.univ _ 1 fun p _ => by split <;> omega).trans ?_
    simp [Fintype.card_prod]
  have e31 : val_main_v31 (F := Ideal) x0 x1 (ix1 k) = ((Ghm.cnt X T k : ℝ) : EReal) := by
    have : val_main_v31 (F := Ideal) x0 x1 (ix1 k) = (((val_main_v30 (F := Ideal) x0 x1 (ix1 k)).toInt : ℝ) : EReal) := rfl
    rw [this, count_word H, StableHlo.Predicate.toInt_ofNat_small _ (by omega), Int.cast_natCast, Nat.cast_sum]
    congr 1
    exact Finset.sum_congr rfl fun p _ => by split <;> simp
  have e : val_main_v37 (F := Ideal) x0 x1 (ix1 k) = Ideal.ofBits .f32 0x3F666666#32 * Ideal.ofBits .f32 0x00000000#32
      + Ideal.ofBits .f32 0x3DCCCCCD#32 * val_main_v31 (F := Ideal) x0 x1 (ix1 k) := rfl
  rw [e, e31, Ideal.ofBits_zero_f32, mul_zero, zero_add, Ghm.word_scale, ← EReal.coe_mul]

/-- The weight of pixel `j`. -/
theorem weight_at (H : Args x0 x1 X T) (j : Fin 1048576) :
    val_main_v48 (F := Ideal) x0 x1 (ix1 j) = ((1 / Ghm.den X T (Ghm.bin X T (flat j)) : ℝ) : EReal) := by
  have hb := (Ghm.bin X T (flat j)).isLt
  have e44 : val_main_v44 (F := Ideal) x0 x1 (ix1 j) = ((Ghm.scale * Ghm.cnt X T (Ghm.bin X T (flat j)) : ℝ) : EReal) := by
    rw [← running_count H]
    exact Routing.take_ap gather_S10_S1048576x1_S1048576_n_0_n_n_0_1_1 rfl rfl rfl rfl _ _ j hb (by omega) (read_at H j)
  have e : val_main_v48 (F := Ideal) x0 x1 (ix1 j) = Ideal.div (Ideal.ofBits .f32 0x3F800000#32)
      (val_main_v44 (F := Ideal) x0 x1 (ix1 j) + Ideal.ofBits .f32 0x358637BD#32) := rfl
  rw [e, e44, word_one, Ghm.word_eps, ← EReal.coe_add]
  exact Ghm.div_coe _ _ (Ghm.den_pos X T _).ne'

/-! ## The cross entropy -/

theorem word_bot : Ideal.ofBits .f32 0xFF800000#32 = ⊥ := by
  simp [Ideal.ofBits, Ideal.ieee]

/-- The largest of finitely many real numbers, at least one, is a real number. -/
theorem largest_of_reals {n : ℕ} (f : Fin n → EReal) (g : Fin n → ℝ) (hf : ∀ k, f k = ((g k : ℝ) : EReal)) (k₀ : Fin n) :
    ∃ M : ℝ, (Finset.univ : Finset (Fin n)).fold max ⊥ f = ((M : ℝ) : EReal) := by
  have hb : (⊥ : EReal) < (Finset.univ : Finset (Fin n)).fold max ⊥ f :=
    (Finset.lt_fold_max _).mpr (Or.inr ⟨k₀, Finset.mem_univ _, by rw [hf]; exact EReal.bot_lt_coe _⟩)
  have ht : (Finset.univ : Finset (Fin n)).fold max ⊥ f < (⊤ : EReal) :=
    (Finset.fold_max_lt _).mpr ⟨bot_lt_top, fun k _ => by rw [hf]; exact EReal.coe_lt_top _⟩
  exact ⟨_, (EReal.coe_toReal ht.ne hb.ne').symm⟩

/-- The largest of a pixel's scores is a real number. -/
theorem largest_real (H : Args x0 x1 X T) (b : Fin 4) (y w : Fin 512) :
    ∃ M : ℝ, val_main_call4_v2 (F := Ideal) x0 (ix3 b y w) = ((M : ℝ) : EReal) := by
  have hr : S4x21x512x512.Reduces [1] S4x512x512 := by decide
  have hl : ∀ k : Fin 21, (x0 ∘ hr.lift (ix3 b y w)) k = ((X b k y w : ℝ) : EReal) := by
    intro k
    rw [← H.scores]
    refine congrArg x0 (funext fun a => Fin.ext ?_)
    match a with
    | ⟨0, _⟩ => rfl
    | ⟨1, _⟩ => rfl
    | ⟨2, _⟩ => rfl
    | ⟨3, _⟩ => rfl
  obtain ⟨M, hM⟩ := largest_of_reals _ _ hl 0
  refine ⟨M, ?_⟩
  rw [val_main_call4_v2_apply, val_main_call4_v1_apply, val_main_call4_cst_0_apply, ← hM]
  unfold val_main_call4_v0
  rw [Host.reduce_eq_fold_single FloatOps.maximumf x0 _ _ hr h_S_, val_main_call4_cst_apply, Ideal.ofBits_def, word_bot, Ideal.maximumf_def]
  exact max_eq_right bot_le

/-- Subtracting one number from every score does not change the cross entropy. -/
theorem shift_away (x : Fin 21 → ℝ) (M : ℝ) (c : Fin 21) :
    x c - M - Real.log (∑ k, Real.exp (x k - M)) = -Ghm.ceOf x c := by
  have hs : 0 < ∑ k, Real.exp (x k) := Finset.sum_pos (fun k _ => Real.exp_pos _) ⟨0, Finset.mem_univ _⟩
  have he : ∑ k, Real.exp (x k - M) = (∑ k, Real.exp (x k)) / Real.exp M := by
    rw [Finset.sum_div]
    exact Finset.sum_congr rfl fun k _ => Real.exp_sub _ _
  rw [he, Real.log_div hs.ne' (Real.exp_pos M).ne', Real.log_exp, Ghm.ceOf]
  ring

/-- The logarithm of the softmax. -/
theorem log_softmax_at (H : Args x0 x1 X T) (b : Fin 4) (c : Fin 21) (y w : Fin 512) :
    val_main_v49 (F := Ideal) x0 (ix4 b c y w) = ((-Ghm.ceOf (Ghm.px X (b, y, w)) c : ℝ) : EReal) := by
  obtain ⟨M, hM⟩ := largest_real H b y w
  have e5 : ∀ k : Fin 21, val_main_call4_v5 (F := Ideal) x0 (ix4 b k y w) = ((X b k y w - M : ℝ) : EReal) := by
    intro k
    have hi : idx_main_call4_v3 (idx_main_call4_v4 (ix4 b k y w)) = ix3 b y w := by
      funext a
      match a with
      | ⟨0, _⟩ => rfl
      | ⟨1, _⟩ => rfl
      | ⟨2, _⟩ => rfl
    rw [val_main_call4_v5_apply, val_main_call4_v4_apply, val_main_call4_v3_apply, hi, hM, H.scores, EReal.coe_sub]
    rfl
  have e7 : val_main_call4_v7 (F := Ideal) x0 (ix3 b y w) = ((∑ k, Real.exp (X b k y w - M) : ℝ) : EReal) := by
    have hk : ∀ k : Fin 21, val_main_call4_v6 (F := Ideal) x0 (idx_main_call4_v7 (ix3 b y w) k) = ((Real.exp (X b k y w - M) : ℝ) : EReal) := by
      intro k
      have hi : idx_main_call4_v7 (ix3 b y w) k = ix4 b k y w := by
        funext a
        match a with
        | ⟨0, _⟩ => rfl
        | ⟨1, _⟩ => rfl
        | ⟨2, _⟩ => rfl
        | ⟨3, _⟩ => rfl
      rw [hi, val_main_call4_v6_apply, e5]
      rfl
    rw [val_main_call4_v7_apply]
    simp only [hk]
    show Ideal.ofBits .f32 0x00000000#32 + _ = _
    rw [Ideal.ofBits_zero_f32, zero_add, ← Ghm.coe_sum]
  have e10 : val_main_call4_v10 (F := Ideal) x0 (ix4 b c y w) = ((Real.log (∑ k, Real.exp (X b k y w - M)) : ℝ) : EReal) := by
    have hi : idx_main_call4_v8 (idx_main_call4_v10 (ix4 b c y w)) = ix3 b y w := by
      funext a
      match a with
      | ⟨0, _⟩ => rfl
      | ⟨1, _⟩ => rfl
      | ⟨2, _⟩ => rfl
    rw [val_main_call4_v10_apply, val_main_call4_v9_apply, val_main_call4_v8_apply, hi, e7]
    exact Ghm.log_coe _ (Finset.sum_pos (fun k _ => Real.exp_pos _) ⟨0, Finset.mem_univ _⟩)
  rw [val_main_v49_apply, e5, e10, ← shift_away (Ghm.px X (b, y, w)) M c, EReal.coe_sub]
  rfl

/-- A class number is not wrapped, and is in range. -/
theorem class_kept (c : Fin 21) :
    Scalar.select (IntOp.cmpi .slt (BitVec.ofNat 32 c.val) 0#32) (BitVec.ofNat 32 c.val + 21#32) (BitVec.ofNat 32 c.val) = BitVec.ofNat 32 c.val
      ∧ IntOp.andi (IntOp.cmpi .sge (BitVec.ofNat 32 c.val) 0#32) (IntOp.cmpi .sle (BitVec.ofNat 32 c.val) 20#32) = 1#1 := by
  revert c; decide

/-- The index word of a pixel's class, after wrapping. -/
theorem class_word (H : Args x0 x1 X T) (i : S4x1x512x512x1.Idx) :
    val_main_call5_v5 (F := Ideal) x1 i = BitVec.ofNat 32 (T (i 0, i 2, i 3)).val := by
  have h1 : (i 1).val < 1 := (i 1).isLt
  have h2 : (i 2).val < 512 := (i 2).isLt
  have h3 : (i 3).val < 512 := (i 3).isLt
  have h4 : (i 4).val < 1 := (i 4).isLt
  have hi : idx_main_v50 (idx_main_call5_v5 i) = ix3 (i 0) (i 2) (i 3) := by
    funext a
    refine Fin.ext ?_
    match a with
    | ⟨0, _⟩ => show (((((i 0).val * 1 + (i 1).val) * 512 + (i 2).val) * 512 + (i 3).val) * 1 + (i 4).val) / 262144 = (i 0).val; omega
    | ⟨1, _⟩ => show (((((i 0).val * 1 + (i 1).val) * 512 + (i 2).val) * 512 + (i 3).val) * 1 + (i 4).val) / 512 % 512 = (i 2).val; omega
    | ⟨2, _⟩ => show (((((i 0).val * 1 + (i 1).val) * 512 + (i 2).val) * 512 + (i 3).val) * 1 + (i 4).val) % 512 = (i 3).val; omega
  have e : val_main_v50 (F := Ideal) x1 (idx_main_call5_v5 i) = BitVec.ofNat 32 (T (i 0, i 2, i 3)).val := by
    rw [val_main_v50_apply, hi]
    exact H.classes _ _ _
  rw [val_main_call5_v5_apply, val_main_call5_v4_apply, val_main_call5_v1_apply, val_main_call5_v3_apply, e]
  exact (class_kept _).1

/-- The cross entropy of a pixel. -/
theorem cross_entropy_at (H : Args x0 x1 X T) (j : Fin 1048576) :
    val_main_v54 (F := Ideal) x0 x1 (ix1 j) = ((Ghm.ce X T (flat j) : ℝ) : EReal) := by
  have hj := j.isLt
  have hi : idx_main_v52 (idx_main_v54 (ix1 j)) = ix4 (flat j).1 (0 : Fin 1) (flat j).2.1 (flat j).2.2 := by
    funext a
    refine Fin.ext ?_
    match a with
    | ⟨0, _⟩ => show ((j.val / 262144 * 512 + j.val / 512 % 512) * 512 + j.val % 512) / 262144 = j.val / 262144; omega
    | ⟨1, _⟩ => rfl
    | ⟨2, _⟩ => show ((j.val / 262144 * 512 + j.val / 512 % 512) * 512 + j.val % 512) / 512 % 512 = j.val / 512 % 512; omega
    | ⟨3, _⟩ => show ((j.val / 262144 * 512 + j.val / 512 % 512) * 512 + j.val % 512) % 512 = j.val % 512; omega
  have hin : ∀ i, val_main_call5_v12 (F := Ideal) x1 i = 1#1 := fun i =>
    Host.reduce_andi_one _ _ _ _ i rfl fun k => by
      rw [val_main_call5_v11_apply, val_main_call5_v7_apply, val_main_call5_v10_apply, class_word H]
      exact (class_kept _).2
  have hp : val_main_call5_v13 (F := Ideal) x0 x1 (ix4 (flat j).1 (0 : Fin 1) (flat j).2.1 (flat j).2.2)
      = ((-Ghm.ceOf (Ghm.px X (flat j)) (T (flat j)) : ℝ) : EReal) := by
    refine (pick_score _ _ _ _ _ (T (flat j)) ?_).trans (log_softmax_at H _ _ _ _)
    exact class_word H _
  rw [val_main_v54_apply, val_main_v53_apply, val_main_v52_apply, hi, val_main_v51_apply, hin, hp]
  show -((-Ghm.ceOf (Ghm.px X (flat j)) (T (flat j)) : ℝ) : EReal) = _
  rw [← EReal.coe_neg, neg_neg]
  rfl

/-! ## The loss -/

/-- Indices of a flattened array by their number. -/
def flatIdx : Fin 1048576 ≃ S1048576.Idx where
  toFun j := ix1 j
  invFun i := i 0
  left_inv _ := rfl
  right_inv i := (eq_ix1 i).symm

/-- The reference's result is the loss. -/
theorem reference_eq (H : Args x0 x1 X T) : val_main_v58 (F := Ideal) x0 x1 = fun _ => ((Ghm.loss X T : ℝ) : EReal) := by
  have e55 : ∀ j : Fin 1048576, val_main_v55 (F := Ideal) x0 x1 (flatIdx j)
      = ((Ghm.ce X T (flat j) * (1 / Ghm.den X T (Ghm.bin X T (flat j))) : ℝ) : EReal) := by
    intro j
    show val_main_v55 (F := Ideal) x0 x1 (ix1 j) = _
    rw [val_main_v55_apply, cross_entropy_at H, weight_at H, Ideal.mulf_def, ← EReal.coe_mul]
  have e56 : ∀ i, val_main_v56 (F := Ideal) x0 x1 i = ((∑ p, Ghm.ce X T p * (1 / Ghm.den X T (Ghm.bin X T p)) : ℝ) : EReal) := by
    intro i
    rw [val_main_v56_apply, ← flatIdx.sum_comp, ← flat.sum_comp]
    simp only [e55]
    show Ideal.ofBits .f32 0x00000000#32 + _ = _
    rw [Ideal.ofBits_zero_f32, zero_add, ← Ghm.coe_sum]
  have e57 : ∀ i, val_main_v57 (F := Ideal) x0 x1 i = ((Ghm.loss X T : ℝ) : EReal) := by
    intro i
    rw [val_main_v57_apply, e56]
    show Ideal.div _ (Ideal.ofBits .f32 0x49800000#32) = _
    rw [Ghm.word_pixels, Ghm.div_coe _ _ (by norm_num)]
    rfl
  funext i
  exact e57 _

end

end Cert.ReferenceIdeal.Ghm
-- ==== Proof.lean ====
/- The proof of the claims: the frames, that the kernel over the extended reals is the kernel's own text, and that
   the kernel and the reference end with equal results. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Inputs
public import proofs.«01_k».proof.Proof.Result
public import proofs.«01_k».proof.Proof.Reference
public import Idealize.ShloMosaic.Lib.Claim

@[expose] public section

noncomputable section

namespace Cert.Proof

open Idealize.ShloMosaic Idealize.SL.Sem

/-- The reference runs, keeps its arguments, and leaves every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From finite scores and targets in range, the kernel and the reference both end with the specification's loss. -/
theorem equal_results : Cert.algebraic_KernelIdeal_ReferenceIdeal_pre_finite_scores_and_classes
    (hKernelIdeal := Cert.KernelIdeal.Gen.facts) (hReferenceIdeal := Cert.ReferenceIdeal.Gen.facts)
    (hPre_finite_scores_and_classes := Cert.Pre_finite_scores_and_classes.facts) := by
  intro m g m' g' hpre hargs
  letI := Cert.Pre_finite_scores_and_classes.facts
  refine ⟨fun c _ => ((Ghm.loss
      (Pre_finite_scores_and_classes.scoresOf (m ((c.tc : Thread KernelIdeal.nD KernelIdeal.τ).loc KernelIdeal.main_arg0)))
      (Pre_finite_scores_and_classes.classesOf (m ((c.tc : Thread KernelIdeal.nD KernelIdeal.τ).loc KernelIdeal.main_arg1))) : ℝ) : EReal), ?_, ?_⟩
  · refine (θ_run Cert.KernelIdeal.defs _ _).mono (fun r h c => ⟨(h c).1.trans ?_, (h c).2⟩)
      (Cert.KernelIdeal.Value.run_blocks (F := Ideal) m g)
    refine Cert.KernelIdeal.Ghm.result_eq ⟨fun b k y w => ?_, fun b y w => ?_⟩
    · exact Pre_finite_scores_and_classes.scores_eq (hpre c) b k y w
    · exact Pre_finite_scores_and_classes.classes_eq (hpre c) b y w
  · refine (θ_run Cert.ReferenceIdeal.defs _ _).mono (fun r h c => ⟨(h c).1.trans ?_, (h c).2⟩)
      (Cert.ReferenceIdeal.Value.run (F := Ideal) m' g')
    rw [Cert.ReferenceIdeal.Read.val_main_v58_eq, (hargs c).1, (hargs c).2]
    exact Cert.ReferenceIdeal.Ghm.reference_eq ⟨Pre_finite_scores_and_classes.scores_eq (hpre c),
      Pre_finite_scores_and_classes.classes_eq (hpre c)⟩

/-- Every claim. -/
theorem claim : Cert.Claim :=
  ⟨Cert.Kernel.Gen.facts, Cert.KernelIdeal.Gen.facts, Cert.ReferenceIdeal.Gen.facts,
    Cert.Pre_finite_scores_and_classes.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, equal_results⟩

end Cert.Proof

end
